-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qkv [hPre_finite_qkv : Cert.Pre_finite_qkv.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qkv.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qkv [hPre_finite_qkv : Cert.Pre_finite_qkv.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qkv.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_bias [hPre_finite_bias : Cert.Pre_finite_bias.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_bias.fn (F := Ideal) (m ((c.tc : Thread Cert.Kernel5Ideal.nD Cert.Kernel5Ideal.τ).loc Cert.Kernel5Ideal.main_arg0))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_bias [hPre_finite_bias : Cert.Pre_finite_bias.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_bias.fn (F := Ideal) (m ((c.tc : Thread Cert.Reference5Ideal.nD Cert.Reference5Ideal.τ).loc Cert.Reference5Ideal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_qkv [hKernelIdeal : Cert.KernelIdeal.Facts] [hPre_finite_qkv : Cert.Pre_finite_qkv.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qkv m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_qkv [hReferenceIdeal : Cert.ReferenceIdeal.Facts] [hPre_finite_qkv : Cert.Pre_finite_qkv.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qkv m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ r.2.sem = fun _ => 0)

def quiescent_Kernel5Ideal_pre_finite_bias [hKernel5Ideal : Cert.Kernel5Ideal.Facts] [hPre_finite_bias : Cert.Pre_finite_bias.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_bias m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0))
      ∧ r.2.sem = fun _ => 0)

def quiescent_Reference5Ideal_pre_finite_bias [hReference5Ideal : Cert.Reference5Ideal.Facts] [hPre_finite_bias : Cert.Pre_finite_bias.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_bias m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0))
      ∧ r.2.sem = fun _ => 0)

def preserves_Kernel_KernelIdeal : Prop :=
  True

def algebraic_KernelIdeal_ReferenceIdeal_pre_finite_qkv [hKernelIdeal : Cert.KernelIdeal.Facts] [hReferenceIdeal : Cert.ReferenceIdeal.Facts] [hPre_finite_qkv : Cert.Pre_finite_qkv.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qkv m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v26_0)) (v1 : (c : Dev Cert.Kernel3Ideal.nD) → Buf (Elt Ideal) ((c.tc : Thread Cert.Kernel3Ideal.nD Cert.Kernel3Ideal.τ).loc Cert.Kernel3Ideal.main_v26_1)) (v2 : (c : Dev Cert.Kernel3Ideal.nD) → Buf (Elt Ideal) ((c.tc : Thread Cert.Kernel3Ideal.nD Cert.Kernel3Ideal.τ).loc Cert.Kernel3Ideal.main_v26_2)) (v3 : (c : Dev Cert.Kernel3Ideal.nD) → Buf (Elt Ideal) ((c.tc : Thread Cert.Kernel3Ideal.nD Cert.Kernel3Ideal.τ).loc Cert.Kernel3Ideal.main_v26_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v26_0) = v0 c
          ∧ r.2.mem ((c.tc : Thread Cert.Kernel3Ideal.nD Cert.Kernel3Ideal.τ).loc Cert.Kernel3Ideal.main_v26_1) = v1 c
          ∧ r.2.mem ((c.tc : Thread Cert.Kernel3Ideal.nD Cert.Kernel3Ideal.τ).loc Cert.Kernel3Ideal.main_v26_2) = v2 c
          ∧ r.2.mem ((c.tc : Thread Cert.Kernel3Ideal.nD Cert.Kernel3Ideal.τ).loc Cert.Kernel3Ideal.main_v26_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v84) = v0 c
          ∧ r.2.mem ((c.tc : Thread Cert.Reference3Ideal.nD Cert.Reference3Ideal.τ).loc Cert.Reference3Ideal.main_v85) = v1 c
          ∧ r.2.mem ((c.tc : Thread Cert.Reference3Ideal.nD Cert.Reference3Ideal.τ).loc Cert.Reference3Ideal.main_v86) = v2 c
          ∧ r.2.mem ((c.tc : Thread Cert.Reference3Ideal.nD Cert.Reference3Ideal.τ).loc Cert.Reference3Ideal.main_v88) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v14_0)) (v1 : (c : Dev Cert.Kernel4Ideal.nD) → Buf (Elt Ideal) ((c.tc : Thread Cert.Kernel4Ideal.nD Cert.Kernel4Ideal.τ).loc Cert.Kernel4Ideal.main_v14_1)) (v2 : (c : Dev Cert.Kernel4Ideal.nD) → Buf (Elt Ideal) ((c.tc : Thread Cert.Kernel4Ideal.nD Cert.Kernel4Ideal.τ).loc Cert.Kernel4Ideal.main_v14_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v14_0) = v0 c
          ∧ r.2.mem ((c.tc : Thread Cert.Kernel4Ideal.nD Cert.Kernel4Ideal.τ).loc Cert.Kernel4Ideal.main_v14_1) = v1 c
          ∧ r.2.mem ((c.tc : Thread Cert.Kernel4Ideal.nD Cert.Kernel4Ideal.τ).loc Cert.Kernel4Ideal.main_v14_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v78) = v0 c
          ∧ r.2.mem ((c.tc : Thread Cert.Reference4Ideal.nD Cert.Reference4Ideal.τ).loc Cert.Reference4Ideal.main_v80) = v1 c
          ∧ r.2.mem ((c.tc : Thread Cert.Reference4Ideal.nD Cert.Reference4Ideal.τ).loc Cert.Reference4Ideal.main_v82) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal_pre_finite_bias [hKernel5Ideal : Cert.Kernel5Ideal.Facts] [hReference5Ideal : Cert.Reference5Ideal.Facts] [hPre_finite_bias : Cert.Pre_finite_bias.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_bias m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v35) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_qkv : Cert.Pre_finite_qkv.Facts) (hPre_finite_bias : Cert.Pre_finite_bias.Facts),
    quiescent_Kernel (hKernel := hKernel)
    ∧ quiescent_KernelIdeal (hKernelIdeal := hKernelIdeal)
    ∧ quiescent_KernelIdeal_pre_finite_qkv (hKernelIdeal := hKernelIdeal) (hPre_finite_qkv := hPre_finite_qkv)
    ∧ quiescent_ReferenceIdeal (hReferenceIdeal := hReferenceIdeal)
    ∧ quiescent_ReferenceIdeal_pre_finite_qkv (hReferenceIdeal := hReferenceIdeal) (hPre_finite_qkv := hPre_finite_qkv)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_bias (hKernel5Ideal := hKernel5Ideal) (hPre_finite_bias := hPre_finite_bias)
    ∧ quiescent_Reference5Ideal (hReference5Ideal := hReference5Ideal)
    ∧ quiescent_Reference5Ideal_pre_finite_bias (hReference5Ideal := hReference5Ideal) (hPre_finite_bias := hPre_finite_bias)
    ∧ preserves_Kernel_KernelIdeal
    ∧ algebraic_KernelIdeal_ReferenceIdeal_pre_finite_qkv (hKernelIdeal := hKernelIdeal) (hReferenceIdeal := hReferenceIdeal) (hPre_finite_qkv := hPre_finite_qkv)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_bias (hKernel5Ideal := hKernel5Ideal) (hReference5Ideal := hReference5Ideal) (hPre_finite_bias := hPre_finite_bias)
-- ==== Pre_finite_bias.lean ====
abbrev S16x513 : Shape := ⟨2, ![16, 513]⟩
abbrev S_ : Shape := ⟨0, ![]⟩

class Facts : Prop where
  bcast_S_S16x513 : S_.BroadcastsInDim S16x513 (![] : Fin 0 → Fin S16x513.rank)
  reducesTo_S16x513_S_d0_1 : S16x513.ReducesTo [0, 1] S_
  h_S_ : 0 < S_.numel

variable [Facts]

def fn {F : FTy → Type} [FloatOps F] (main_arg0 : FVec F S16x513 .f32) : IVec S_ 1 :=
  let main_v0 : FVec F S16x513 .f32 := Host.absf main_arg0
  let main_cst : FVec F S_ .f32 := constant S_ .f32 0x7F800000#32
  let main_v1 : FVec F S16x513 .f32 := broadcastInDim S16x513 ![] bcast_S_S16x513 main_cst
  let main_v2 : IVec S16x513 1 := cmpf .olt main_v0 main_v1
  let main_c : IVec S_ 1 := constantI S_ 1 1#1
  let main_v3 : IVec S_ 1 := (fun x v => Host.reduce IntOp.andi x v reducesTo_S16x513_S_d0_1 h_S_) main_v2 main_c
  main_v3
-- ==== Pre_finite_qkv.lean ====
abbrev S32768x1024 : Shape := ⟨2, ![32768, 1024]⟩
abbrev S8x16x1024x256 : Shape := ⟨4, ![8, 16, 1024, 256]⟩
abbrev S32768x2048 : Shape := ⟨2, ![32768, 2048]⟩
abbrev S2048 : Shape := ⟨1, ![2048]⟩
abbrev S2048x1024 : Shape := ⟨2, ![2048, 1024]⟩
abbrev S_ : Shape := ⟨0, ![]⟩

class Facts : Prop where
  bitsLt_bf16_f32 : FTy.bits .bf16 < FTy.bits .f32
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S8x16x1024x256 : S_.BroadcastsInDim S8x16x1024x256 (![] : Fin 0 → Fin S8x16x1024x256.rank)
  reducesTo_S8x16x1024x256_S_d0_1_2_3 : S8x16x1024x256.ReducesTo [0, 1, 2, 3] S_
  bcast_S_S32768x2048 : S_.BroadcastsInDim S32768x2048 (![] : Fin 0 → Fin S32768x2048.rank)
  reducesTo_S32768x2048_S_d0_1 : S32768x2048.ReducesTo [0, 1] S_

variable [Facts]

def fn {F : FTy → Type} [FloatOps F] (main_arg0 : FVec F S32768x1024 .bf16) (main_arg1 : FVec F S8x16x1024x256 .bf16) (main_arg2 : FVec F S32768x2048 .bf16) (main_arg3 : FVec F S32768x2048 .bf16) (main_arg4 : FVec F S32768x1024 .f32) (main_arg5 : FVec F S2048 .f32) (main_arg6 : FVec F S2048x1024 .f32) : IVec S_ 1 :=
  let main_v0 : FVec F S32768x1024 .f32 := (extf .f32 · bitsLt_bf16_f32) main_arg0
  let main_v1 : FVec F S32768x1024 .f32 := Host.absf main_v0
  let main_cst : FVec F S_ .f32 := constant S_ .f32 0x7F800000#32
  let main_v2 : FVec F S32768x1024 .f32 := broadcastInDim S32768x1024 ![] bcast_S_S32768x1024 main_cst
  let main_v3 : IVec S32768x1024 1 := cmpf .olt main_v1 main_v2
  let main_c : IVec S_ 1 := constantI S_ 1 1#1
  let main_v4 : IVec S_ 1 := (fun x v => Host.reduce IntOp.andi x v reducesTo_S32768x1024_S_d0_1 h_S_) main_v3 main_c
  let main_v5 : FVec F S8x16x1024x256 .f32 := (extf .f32 · bitsLt_bf16_f32) main_arg1
  let main_v6 : FVec F S8x16x1024x256 .f32 := Host.absf main_v5
  let main_cst_0 : FVec F S_ .f32 := constant S_ .f32 0x7F800000#32
  let main_v7 : FVec F S8x16x1024x256 .f32 := broadcastInDim S8x16x1024x256 ![] bcast_S_S8x16x1024x256 main_cst_0
  let main_v8 : IVec S8x16x1024x256 1 := cmpf .olt main_v6 main_v7
  let main_c_1 : IVec S_ 1 := constantI S_ 1 1#1
  let main_v9 : IVec S_ 1 := (fun x v => Host.reduce IntOp.andi x v reducesTo_S8x16x1024x256_S_d0_1_2_3 h_S_) main_v8 main_c_1
  let main_v10 : IVec S_ 1 := andi main_v4 main_v9
  let main_v11 : FVec F S32768x2048 .f32 := (extf .f32 · bitsLt_bf16_f32) main_arg2
  let main_v12 : FVec F S32768x2048 .f32 := Host.absf main_v11
  let main_cst_2 : FVec F S_ .f32 := constant S_ .f32 0x7F800000#32
  let main_v13 : FVec F S32768x2048 .f32 := broadcastInDim S32768x2048 ![] bcast_S_S32768x2048 main_cst_2
  let main_v14 : IVec S32768x2048 1 := cmpf .olt main_v12 main_v13
  let main_c_3 : IVec S_ 1 := constantI S_ 1 1#1
  let main_v15 : IVec S_ 1 := (fun x v => Host.reduce IntOp.andi x v reducesTo_S32768x2048_S_d0_1 h_S_) main_v14 main_c_3
  let main_v16 : IVec S_ 1 := andi main_v10 main_v15
  main_v16
-- ==== Kernel.lean ====
abbrev S32768x1024 : Shape := ⟨2, ![32768, 1024]⟩
abbrev S8x16x1024x256 : Shape := ⟨4, ![8, 16, 1024, 256]⟩
abbrev S32768x2048 : Shape := ⟨2, ![32768, 2048]⟩
abbrev S2048 : Shape := ⟨1, ![2048]⟩
abbrev S2048x1024 : Shape := ⟨2, ![2048, 1024]⟩
abbrev S4 : Shape := ⟨1, ![4]⟩
abbrev S_ : Shape := ⟨0, ![]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S4x1x1 : Shape := ⟨3, ![4, 1, 1]⟩
abbrev S1x256x256 : Shape := ⟨3, ![1, 256, 256]⟩
abbrev S4x256x256 : Shape := ⟨3, ![4, 256, 256]⟩
abbrev S4x1 : Shape := ⟨2, ![4, 1]⟩
abbrev S4x256 : Shape := ⟨2, ![4, 256]⟩
abbrev S256x4 : Shape := ⟨2, ![256, 4]⟩
abbrev S256x4x256 : Shape := ⟨3, ![256, 4, 256]⟩
abbrev S256x1024 : Shape := ⟨2, ![256, 1024]⟩
abbrev S1024x256 : Shape := ⟨2, ![1024, 256]⟩
abbrev S4x1x512 : Shape := ⟨3, ![4, 1, 512]⟩
abbrev S1x2048 : Shape := ⟨2, ![1, 2048]⟩
abbrev S512x1024 : Shape := ⟨2, ![512, 1024]⟩
abbrev S1x2x1024x256 : Shape := ⟨4, ![1, 2, 1024, 256]⟩
abbrev S512x2048 : Shape := ⟨2, ![512, 2048]⟩
abbrev S4x256x512 : Shape := ⟨3, ![4, 256, 512]⟩
abbrev S1x1x256x256 : Shape := ⟨4, ![1, 1, 256, 256]⟩
abbrev S256x512 : Shape := ⟨2, ![256, 512]⟩
abbrev S1x256x512 : Shape := ⟨3, ![1, 256, 512]⟩
abbrev S1x1x512 : Shape := ⟨3, ![1, 1, 512]⟩
abbrev S1x512 : Shape := ⟨2, ![1, 512]⟩

abbrev nBuf : Space → Nat
  | .hbm => 93
  | .vmem => 20
  | .smem => 0
  | _ => 0

abbrev bufTy : (tb : Table) → Fin (tcTables nBuf tb) → BufTy
  | .hbm, ⟨0, _⟩ => ⟨S32768x1024, .bf16⟩
  | .hbm, ⟨1, _⟩ => ⟨S8x16x1024x256, .bf16⟩
  | .hbm, ⟨2, _⟩ => ⟨S32768x2048, .bf16⟩
  | .hbm, ⟨3, _⟩ => ⟨S32768x2048, .bf16⟩
  | .hbm, ⟨4, _⟩ => ⟨S32768x1024, .f32⟩
  | .hbm, ⟨5, _⟩ => ⟨S2048, .f32⟩
  | .hbm, ⟨6, _⟩ => ⟨S2048x1024, .f32⟩
  | .hbm, ⟨7, _⟩ => ⟨S4, .f32⟩
  | .hbm, ⟨8, _⟩ => ⟨S_, .f32⟩
  | .hbm, ⟨9, _⟩ => ⟨S4, .f32⟩
  | .hbm, ⟨10, _⟩ => ⟨S4, .f32⟩
  | .hbm, ⟨11, _⟩ => ⟨S_, .f32⟩
  | .hbm, ⟨12, _⟩ => ⟨S4, .f32⟩
  | .hbm, ⟨13, _⟩ => ⟨S4, .f32⟩
  | .hbm, ⟨14, _⟩ => ⟨S_, .f32⟩
  | .hbm, ⟨15, _⟩ => ⟨S4, .f32⟩
  | .hbm, ⟨16, _⟩ => ⟨S4, .f32⟩
  | .hbm, ⟨17, _⟩ => ⟨S4, .f32⟩
  | .hbm, ⟨18, _⟩ => ⟨S256, .f32⟩
  | .hbm, ⟨19, _⟩ => ⟨S256, .i32⟩
  | .hbm, ⟨20, _⟩ => ⟨S_, .i32⟩
  | .hbm, ⟨21, _⟩ => ⟨S_, .i32⟩
  | .hbm, ⟨22, _⟩ => ⟨S256, .i32⟩
  | .hbm, ⟨23, _⟩ => ⟨S256, .i32⟩
  | .hbm, ⟨24, _⟩ => ⟨S256, .i32⟩
  | .hbm, ⟨25, _⟩ => ⟨S_, .i32⟩
  | .hbm, ⟨26, _⟩ => ⟨S256, .i32⟩
  | .hbm, ⟨27, _⟩ => ⟨S256, .i1⟩
  | .hbm, ⟨28, _⟩ => ⟨S256, .i32⟩
  | .hbm, ⟨29, _⟩ => ⟨S256, .i32⟩
  | .hbm, ⟨30, _⟩ => ⟨S_, .i32⟩
  | .hbm, ⟨31, _⟩ => ⟨S256, .i32⟩
  | .hbm, ⟨32, _⟩ => ⟨S256, .i1⟩
  | .hbm, ⟨33, _⟩ => ⟨S256, .i1⟩
  | .hbm, ⟨34, _⟩ => ⟨S_, .i32⟩
  | .hbm, ⟨35, _⟩ => ⟨S256, .i32⟩
  | .hbm, ⟨36, _⟩ => ⟨S256, .i32⟩
  | .hbm, ⟨37, _⟩ => ⟨S256, .i32⟩
  | .hbm, ⟨38, _⟩ => ⟨S1x256, .i32⟩
  | .hbm, ⟨39, _⟩ => ⟨S256x1, .i32⟩
  | .hbm, ⟨40, _⟩ => ⟨S256x256, .i32⟩
  | .hbm, ⟨41, _⟩ => ⟨S256x256, .i32⟩
  | .hbm, ⟨42, _⟩ => ⟨S256x256, .i1⟩
  | .hbm, ⟨43, _⟩ => ⟨S4x1x1, .f32⟩
  | .hbm, ⟨44, _⟩ => ⟨S256x1, .f32⟩
  | .hbm, ⟨45, _⟩ => ⟨S1x256, .f32⟩
  | .hbm, ⟨46, _⟩ => ⟨S256x256, .f32⟩
  | .hbm, ⟨47, _⟩ => ⟨S256x256, .f32⟩
  | .hbm, ⟨48, _⟩ => ⟨S256x256, .f32⟩
  | .hbm, ⟨49, _⟩ => ⟨S256x256, .f32⟩
  | .hbm, ⟨50, _⟩ => ⟨S1x256x256, .f32⟩
  | .hbm, ⟨51, _⟩ => ⟨S4x256x256, .f32⟩
  | .hbm, ⟨52, _⟩ => ⟨S4x256x256, .f32⟩
  | .hbm, ⟨53, _⟩ => ⟨S4x256x256, .f32⟩
  | .hbm, ⟨54, _⟩ => ⟨S4x256x256, .f32⟩
  | .hbm, ⟨55, _⟩ => ⟨S1x256x256, .i1⟩
  | .hbm, ⟨56, _⟩ => ⟨S_, .f32⟩
  | .hbm, ⟨57, _⟩ => ⟨S_, .f32⟩
  | .hbm, ⟨58, _⟩ => ⟨S4x256x256, .i1⟩
  | .hbm, ⟨59, _⟩ => ⟨S4x256x256, .f32⟩
  | .hbm, ⟨60, _⟩ => ⟨S4x256x256, .f32⟩
  | .hbm, ⟨61, _⟩ => ⟨S4x1, .f32⟩
  | .hbm, ⟨62, _⟩ => ⟨S1x256, .f32⟩
  | .hbm, ⟨63, _⟩ => ⟨S_, .f32⟩
  | .hbm, ⟨64, _⟩ => ⟨S1x256, .f32⟩
  | .hbm, ⟨65, _⟩ => ⟨S1x256, .f32⟩
  | .hbm, ⟨66, _⟩ => ⟨S4x256, .f32⟩
  | .hbm, ⟨67, _⟩ => ⟨S4x256, .f32⟩
  | .hbm, ⟨68, _⟩ => ⟨S4x256, .f32⟩
  | .hbm, ⟨69, _⟩ => ⟨S4x256, .f32⟩
  | .hbm, ⟨70, _⟩ => ⟨S4x1, .f32⟩
  | .hbm, ⟨71, _⟩ => ⟨S1x256, .f32⟩
  | .hbm, ⟨72, _⟩ => ⟨S_, .f32⟩
  | .hbm, ⟨73, _⟩ => ⟨S1x256, .f32⟩
  | .hbm, ⟨74, _⟩ => ⟨S1x256, .f32⟩
  | .hbm, ⟨75, _⟩ => ⟨S4x256, .f32⟩
  | .hbm, ⟨76, _⟩ => ⟨S4x256, .f32⟩
  | .hbm, ⟨77, _⟩ => ⟨S4x256, .f32⟩
  | .hbm, ⟨78, _⟩ => ⟨S4x256, .f32⟩
  | .hbm, ⟨79, _⟩ => ⟨S_, .f32⟩
  | .hbm, ⟨80, _⟩ => ⟨S4, .f32⟩
  | .hbm, ⟨81, _⟩ => ⟨S4, .f32⟩
  | .hbm, ⟨82, _⟩ => ⟨S4, .f32⟩
  | .hbm, ⟨83, _⟩ => ⟨S256x4, .f32⟩
  | .hbm, ⟨84, _⟩ => ⟨S256x4x256, .f32⟩
  | .hbm, ⟨85, _⟩ => ⟨S256x1024, .f32⟩
  | .hbm, ⟨86, _⟩ => ⟨S4x256x256, .f32⟩
  | .hbm, ⟨87, _⟩ => ⟨S1024x256, .f32⟩
  | .hbm, ⟨88, _⟩ => ⟨S4x1x1, .f32⟩
  | .hbm, ⟨89, _⟩ => ⟨S4x1x512, .f32⟩
  | .hbm, ⟨90, _⟩ => ⟨S1x2048, .f32⟩
  | .hbm, ⟨91, _⟩ => ⟨S2048x1024, .bf16⟩
  | .hbm, ⟨92, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S1x2x1024x256, .bf16⟩
  | .local _ .vmem, ⟨3, _⟩ => ⟨S1x2x1024x256, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x1024, .f32⟩
  | .local _ .vmem, ⟨9, _⟩ => ⟨S512x1024, .f32⟩
  | .local _ .vmem, ⟨10, _⟩ => ⟨S256x1024, .f32⟩
  | .local _ .vmem, ⟨11, _⟩ => ⟨S1024x256, .f32⟩
  | .local _ .vmem, ⟨12, _⟩ => ⟨S4x256x256, .f32⟩
  | .local _ .vmem, ⟨13, _⟩ => ⟨S4x1x512, .f32⟩
  | .local _ .vmem, ⟨14, _⟩ => ⟨S1x2048, .f32⟩
  | .local _ .vmem, ⟨15, _⟩ => ⟨S2048x1024, .bf16⟩
  | .local _ .vmem, ⟨16, _⟩ => ⟨S512x1024, .f32⟩
  | .local _ .vmem, ⟨17, _⟩ => ⟨S512x1024, .f32⟩
  | .local _ .vmem, ⟨18, _⟩ => ⟨S4x256x512, .f32⟩
  | .local _ .vmem, ⟨19, _⟩ => ⟨S512x2048, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_c : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_0 : Ref sig .tc := ⟨.hbm, 34, rfl⟩
abbrev main_call0_v12 : Ref sig .tc := ⟨.hbm, 35, rfl⟩
abbrev main_call0_v13 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_2 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_cst_3 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_4 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_5 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2048x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S32768x1024 : Shape := ⟨2, ![32768, 1024]⟩
abbrev S8x16x1024x256 : Shape := ⟨4, ![8, 16, 1024, 256]⟩
abbrev S32768x2048 : Shape := ⟨2, ![32768, 2048]⟩
abbrev S2048 : Shape := ⟨1, ![2048]⟩
abbrev S2048x1024 : Shape := ⟨2, ![2048, 1024]⟩
abbrev S8x4096x4x256 : Shape := ⟨4, ![8, 4096, 4, 256]⟩
abbrev S8x16x256x1024 : Shape := ⟨4, ![8, 16, 256, 1024]⟩
abbrev S8x4096x4x512 : Shape := ⟨4, ![8, 4096, 4, 512]⟩
abbrev S8x64x64x4x256 : Shape := ⟨5, ![8, 64, 64, 4, 256]⟩
abbrev S64x8x4x64x256 : Shape := ⟨5, ![64, 8, 4, 64, 256]⟩
abbrev S8x64x64x4x512 : Shape := ⟨5, ![8, 64, 64, 4, 512]⟩
abbrev S64x8x4x64x512 : Shape := ⟨5, ![64, 8, 4, 64, 512]⟩
abbrev S4 : Shape := ⟨1, ![4]⟩
abbrev S_ : Shape := ⟨0, ![]⟩
abbrev S4x1 : Shape := ⟨2, ![4, 1]⟩
abbrev S64 : Shape := ⟨1, ![64]⟩
abbrev S4x1x1 : Shape := ⟨3, ![4, 1, 1]⟩
abbrev S64x1 : Shape := ⟨2, ![64, 1]⟩
abbrev S1x64 : Shape := ⟨2, ![1, 64]⟩
abbrev S64x64 : Shape := ⟨2, ![64, 64]⟩
abbrev S1x64x64 : Shape := ⟨3, ![1, 64, 64]⟩
abbrev S4x64x64 : Shape := ⟨3, ![4, 64, 64]⟩
abbrev S4x64 : Shape := ⟨2, ![4, 64]⟩
abbrev S4x64x1 : Shape := ⟨3, ![4, 64, 1]⟩
abbrev S8x4x256x512 : Shape := ⟨4, ![8, 4, 256, 512]⟩
abbrev S1x8x4x64x256 : Shape := ⟨5, ![1, 8, 4, 64, 256]⟩
abbrev S8x4x64x256 : Shape := ⟨4, ![8, 4, 64, 256]⟩
abbrev S1x8x4x64x512 : Shape := ⟨5, ![1, 8, 4, 64, 512]⟩
abbrev S8x4x64x512 : Shape := ⟨4, ![8, 4, 64, 512]⟩
abbrev S8x4x64x64 : Shape := ⟨4, ![8, 4, 64, 64]⟩
abbrev S1x4x64x64 : Shape := ⟨4, ![1, 4, 64, 64]⟩
abbrev S1x4x64x1 : Shape := ⟨4, ![1, 4, 64, 1]⟩
abbrev S1x4x1x1 : Shape := ⟨4, ![1, 4, 1, 1]⟩
abbrev S4x512 : Shape := ⟨2, ![4, 512]⟩
abbrev S8x4096x4 : Shape := ⟨3, ![8, 4096, 4]⟩
abbrev S8x4096x4x1 : Shape := ⟨4, ![8, 4096, 4, 1]⟩
abbrev S1x1x4x512 : Shape := ⟨4, ![1, 1, 4, 512]⟩

abbrev nBuf : Space → Nat
  | .hbm => 153
  | .vmem => 0
  | .smem => 0
  | _ => 0

abbrev hbmTy0_0 (i : Nat) : BufTy := match i % 128 with
  | 0 => ⟨S32768x1024, .bf16⟩
  | 1 => ⟨S8x16x1024x256, .bf16⟩
  | 2 => ⟨S32768x2048, .bf16⟩
  | 3 => ⟨S32768x2048, .bf16⟩
  | 4 => ⟨S32768x1024, .f32⟩
  | 5 => ⟨S2048, .f32⟩
  | 6 => ⟨S2048x1024, .f32⟩
  | 7 => ⟨S32768x1024, .f32⟩
  | 8 => ⟨S8x4096x4x256, .f32⟩
  | 9 => ⟨S8x16x1024x256, .f32⟩
  | 10 => ⟨S8x16x256x1024, .f32⟩
  | 11 => ⟨S8x4096x4x256, .f32⟩
  | 12 => ⟨S32768x2048, .f32⟩
  | 13 => ⟨S8x4096x4x512, .f32⟩
  | 14 => ⟨S8x64x64x4x256, .f32⟩
  | 15 => ⟨S64x8x4x64x256, .f32⟩
  | 16 => ⟨S8x64x64x4x256, .f32⟩
  | 17 => ⟨S64x8x4x64x256, .f32⟩
  | 18 => ⟨S8x64x64x4x512, .f32⟩
  | 19 => ⟨S64x8x4x64x512, .f32⟩
  | 20 => ⟨S4, .f32⟩
  | 21 => ⟨S_, .f32⟩
  | 22 => ⟨S4, .f32⟩
  | 23 => ⟨S4, .f32⟩
  | 24 => ⟨S_, .f32⟩
  | 25 => ⟨S4, .f32⟩
  | 26 => ⟨S4, .f32⟩
  | 27 => ⟨S_, .f32⟩
  | 28 => ⟨S4, .f32⟩
  | 29 => ⟨S4, .f32⟩
  | 30 => ⟨S4, .f32⟩
  | 31 => ⟨S4x1, .f32⟩
  | 32 => ⟨S64, .f32⟩
  | 33 => ⟨S4x1x1, .f32⟩
  | 34 => ⟨S64x1, .f32⟩
  | 35 => ⟨S1x64, .f32⟩
  | 36 => ⟨S64x64, .f32⟩
  | 37 => ⟨S64x64, .f32⟩
  | 38 => ⟨S64x64, .f32⟩
  | 39 => ⟨S64x64, .f32⟩
  | 40 => ⟨S1x64x64, .f32⟩
  | 41 => ⟨S4x64x64, .f32⟩
  | 42 => ⟨S4x64x64, .f32⟩
  | 43 => ⟨S4x64x64, .f32⟩
  | 44 => ⟨S4x64x64, .f32⟩
  | 45 => ⟨S_, .f32⟩
  | 46 => ⟨S64, .f32⟩
  | 47 => ⟨S64, .f32⟩
  | 48 => ⟨S1x64, .f32⟩
  | 49 => ⟨S4x64, .f32⟩
  | 50 => ⟨S4x64, .f32⟩
  | 51 => ⟨S4x64, .f32⟩
  | 52 => ⟨S4x64, .f32⟩
  | 53 => ⟨S4x64x1, .f32⟩
  | 54 => ⟨S_, .f32⟩
  | 55 => ⟨S64, .f32⟩
  | 56 => ⟨S64, .f32⟩
  | 57 => ⟨S1x64, .f32⟩
  | 58 => ⟨S4x64, .f32⟩
  | 59 => ⟨S4x64, .f32⟩
  | 60 => ⟨S4x64, .f32⟩
  | 61 => ⟨S4x64, .f32⟩
  | 62 => ⟨S4x64x1, .f32⟩
  | 63 => ⟨S_, .f32⟩
  | 64 => ⟨S4x1, .f32⟩
  | 65 => ⟨S4x1, .f32⟩
  | 66 => ⟨S4x1, .f32⟩
  | 67 => ⟨S4x1x1, .f32⟩
  | 68 => ⟨S_, .f32⟩
  | 69 => ⟨S8x4x256x512, .f32⟩
  | 70 => ⟨S_, .f32⟩
  | 71 => ⟨S64x8x4x64x512, .f32⟩
  | 72 => ⟨S_, .i32⟩
  | 73 => ⟨S64x8x4x64x256, .f32⟩
  | 74 => ⟨S64x8x4x64x256, .f32⟩
  | 75 => ⟨S64x8x4x64x512, .f32⟩
  | 76 => ⟨S4x64x64, .f32⟩
  | 77 => ⟨S4x64x1, .f32⟩
  | 78 => ⟨S4x1x1, .f32⟩
  | 79 => ⟨S4x64x1, .f32⟩
  | 80 => ⟨S_, .i32⟩
  | 81 => ⟨S8x4x256x512, .f32⟩
  | 82 => ⟨S64x8x4x64x512, .f32⟩
  | 83 => ⟨S_, .i32⟩
  | 84 => ⟨S_, .i1⟩
  | 85 => ⟨S_, .i32⟩
  | 86 => ⟨S_, .i32⟩
  | 87 => ⟨S_, .i32⟩
  | 88 => ⟨S_, .i32⟩
  | 89 => ⟨S1x8x4x64x256, .f32⟩
  | 90 => ⟨S8x4x64x256, .f32⟩
  | 91 => ⟨S_, .i32⟩
  | 92 => ⟨S_, .i32⟩
  | 93 => ⟨S_, .i32⟩
  | 94 => ⟨S_, .i32⟩
  | 95 => ⟨S1x8x4x64x256, .f32⟩
  | 96 => ⟨S8x4x64x256, .f32⟩
  | 97 => ⟨S_, .i32⟩
  | 98 => ⟨S_, .i32⟩
  | 99 => ⟨S_, .i32⟩
  | 100 => ⟨S_, .i32⟩
  | 101 => ⟨S1x8x4x64x512, .f32⟩
  | 102 => ⟨S8x4x64x512, .f32⟩
  | 103 => ⟨S8x4x64x64, .f32⟩
  | 104 => ⟨S1x4x64x64, .f32⟩
  | 105 => ⟨S8x4x64x64, .f32⟩
  | 106 => ⟨S8x4x64x64, .f32⟩
  | 107 => ⟨S8x4x64x512, .f32⟩
  | 108 => ⟨S1x4x64x1, .f32⟩
  | 109 => ⟨S8x4x64x256, .f32⟩
  | 110 => ⟨S8x4x64x256, .f32⟩
  | 111 => ⟨S8x4x64x512, .f32⟩
  | 112 => ⟨S8x4x64x512, .f32⟩
  | 113 => ⟨S1x4x1x1, .f32⟩
  | 114 => ⟨S8x4x256x512, .f32⟩
  | 115 => ⟨S8x4x256x512, .f32⟩
  | 116 => ⟨S1x4x64x1, .f32⟩
  | 117 => ⟨S8x4x64x256, .f32⟩
  | 118 => ⟨S8x4x64x256, .f32⟩
  | 119 => ⟨S8x4x256x512, .f32⟩
  | 120 => ⟨S8x4x256x512, .f32⟩
  | 121 => ⟨S1x8x4x64x512, .f32⟩
  | 122 => ⟨S_, .i32⟩
  | 123 => ⟨S_, .i32⟩
  | 124 => ⟨S_, .i32⟩
  | 125 => ⟨S_, .i32⟩
  | 126 => ⟨S64x8x4x64x512, .f32⟩
  | 127 => ⟨S_, .i32⟩
  | _ => ⟨S32768x1024, .bf16⟩

abbrev hbmTy0_1 (i : Nat) : BufTy := match i % 128 with
  | 0 => ⟨S_, .i32⟩
  | 1 => ⟨S8x64x64x4x512, .f32⟩
  | 2 => ⟨S8x4096x4x512, .f32⟩
  | 3 => ⟨S4x512, .f32⟩
  | 4 => ⟨S8x4096x4x512, .f32⟩
  | 5 => ⟨S_, .f32⟩
  | 6 => ⟨S8x4096x4, .f32⟩
  | 7 => ⟨S8x4096x4x1, .f32⟩
  | 8 => ⟨S_, .f32⟩
  | 9 => ⟨S8x4096x4x1, .f32⟩
  | 10 => ⟨S8x4096x4x1, .f32⟩
  | 11 => ⟨S_, .f32⟩
  | 12 => ⟨S8x4096x4x1, .f32⟩
  | 13 => ⟨S8x4096x4x1, .f32⟩
  | 14 => ⟨S8x4096x4x1, .f32⟩
  | 15 => ⟨S8x4096x4x512, .f32⟩
  | 16 => ⟨S8x4096x4x512, .f32⟩
  | 17 => ⟨S1x1x4x512, .f32⟩
  | 18 => ⟨S8x4096x4x512, .f32⟩
  | 19 => ⟨S8x4096x4x512, .f32⟩
  | 20 => ⟨S32768x2048, .f32⟩
  | 21 => ⟨S32768x2048, .f32⟩
  | 22 => ⟨S32768x2048, .f32⟩
  | 23 => ⟨S32768x1024, .f32⟩
  | 24 => ⟨S32768x1024, .f32⟩
  | _ => ⟨S32768x1024, .bf16⟩

abbrev hbmTy (i : Nat) : BufTy := match i / 128 with
  | 0 => hbmTy0_0 i
  | 1 => hbmTy0_1 i
  | _ => ⟨S32768x1024, .bf16⟩

abbrev bufTy : (tb : Table) → Fin (tcTables nBuf tb) → BufTy
  | .hbm, ⟨i, _⟩ => hbmTy i
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_2 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_3 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_4 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_5 : Ref sig .tc := ⟨.hbm, 68, rfl⟩
abbrev main_v55 : Ref sig .tc := ⟨.hbm, 69, rfl⟩
abbrev main_cst_6 : Ref sig .tc := ⟨.hbm, 70, rfl⟩
abbrev main_v56 : Ref sig .tc := ⟨.hbm, 71, rfl⟩
abbrev main_c : Ref sig .tc := ⟨.hbm, 72, rfl⟩
abbrev main_v57_0 : Ref sig .tc := ⟨.hbm, 73, rfl⟩
abbrev main_v57_1 : Ref sig .tc := ⟨.hbm, 74, rfl⟩
abbrev main_v57_2 : Ref sig .tc := ⟨.hbm, 75, rfl⟩
abbrev main_v57_3 : Ref sig .tc := ⟨.hbm, 76, rfl⟩
abbrev main_v57_4 : Ref sig .tc := ⟨.hbm, 77, rfl⟩
abbrev main_v57_5 : Ref sig .tc := ⟨.hbm, 78, rfl⟩
abbrev main_v57_6 : Ref sig .tc := ⟨.hbm, 79, rfl⟩
abbrev main_v57_7 : Ref sig .tc := ⟨.hbm, 80, rfl⟩
abbrev main_v57_8 : Ref sig .tc := ⟨.hbm, 81, rfl⟩
abbrev main_v57_9 : Ref sig .tc := ⟨.hbm, 82, rfl⟩
abbrev main_while0c_c_19 : Ref sig .tc := ⟨.hbm, 83, rfl⟩
abbrev main_while0c_v79 : Ref sig .tc := ⟨.hbm, 84, rfl⟩
abbrev main_while0b_call0_c : Ref sig .tc := ⟨.hbm, 85, rfl⟩
abbrev main_while0b_call0_c_0 : Ref sig .tc := ⟨.hbm, 86, rfl⟩
abbrev main_while0b_call0_c_1 : Ref sig .tc := ⟨.hbm, 87, rfl⟩
abbrev main_while0b_call0_c_2 : Ref sig .tc := ⟨.hbm, 88, rfl⟩
abbrev main_while0b_call0_v0 : Ref sig .tc := ⟨.hbm, 89, rfl⟩
abbrev main_while0b_v79 : Ref sig .tc := ⟨.hbm, 90, rfl⟩
abbrev main_while0b_call1_c : Ref sig .tc := ⟨.hbm, 91, rfl⟩
abbrev main_while0b_call1_c_0 : Ref sig .tc := ⟨.hbm, 92, rfl⟩
abbrev main_while0b_call1_c_1 : Ref sig .tc := ⟨.hbm, 93, rfl⟩
abbrev main_while0b_call1_c_2 : Ref sig .tc := ⟨.hbm, 94, rfl⟩
abbrev main_while0b_call1_v0 : Ref sig .tc := ⟨.hbm, 95, rfl⟩
abbrev main_while0b_v80 : Ref sig .tc := ⟨.hbm, 96, rfl⟩
abbrev main_while0b_call2_c : Ref sig .tc := ⟨.hbm, 97, rfl⟩
abbrev main_while0b_call2_c_0 : Ref sig .tc := ⟨.hbm, 98, rfl⟩
abbrev main_while0b_call2_c_1 : Ref sig .tc := ⟨.hbm, 99, rfl⟩
abbrev main_while0b_call2_c_2 : Ref sig .tc := ⟨.hbm, 100, rfl⟩
abbrev main_while0b_call2_v0 : Ref sig .tc := ⟨.hbm, 101, rfl⟩
abbrev main_while0b_v81 : Ref sig .tc := ⟨.hbm, 102, rfl⟩
abbrev main_while0b_v82 : Ref sig .tc := ⟨.hbm, 103, rfl⟩
abbrev main_while0b_v83 : Ref sig .tc := ⟨.hbm, 104, rfl⟩
abbrev main_while0b_v84 : Ref sig .tc := ⟨.hbm, 105, rfl⟩
abbrev main_while0b_v85 : Ref sig .tc := ⟨.hbm, 106, rfl⟩
abbrev main_while0b_v86 : Ref sig .tc := ⟨.hbm, 107, rfl⟩
abbrev main_while0b_v87 : Ref sig .tc := ⟨.hbm, 108, rfl⟩
abbrev main_while0b_v88 : Ref sig .tc := ⟨.hbm, 109, rfl⟩
abbrev main_while0b_v89 : Ref sig .tc := ⟨.hbm, 110, rfl⟩
abbrev main_while0b_v90 : Ref sig .tc := ⟨.hbm, 111, rfl⟩
abbrev main_while0b_v91 : Ref sig .tc := ⟨.hbm, 112, rfl⟩
abbrev main_while0b_v92 : Ref sig .tc := ⟨.hbm, 113, rfl⟩
abbrev main_while0b_v93 : Ref sig .tc := ⟨.hbm, 114, rfl⟩
abbrev main_while0b_v94 : Ref sig .tc := ⟨.hbm, 115, rfl⟩
abbrev main_while0b_v95 : Ref sig .tc := ⟨.hbm, 116, rfl⟩
abbrev main_while0b_v96 : Ref sig .tc := ⟨.hbm, 117, rfl⟩
abbrev main_while0b_v97 : Ref sig .tc := ⟨.hbm, 118, rfl⟩
abbrev main_while0b_v98 : Ref sig .tc := ⟨.hbm, 119, rfl⟩
abbrev main_while0b_v99 : Ref sig .tc := ⟨.hbm, 120, rfl⟩
abbrev main_while0b_call3_v0 : Ref sig .tc := ⟨.hbm, 121, rfl⟩
abbrev main_while0b_call3_c : Ref sig .tc := ⟨.hbm, 122, rfl⟩
abbrev main_while0b_call3_c_0 : Ref sig .tc := ⟨.hbm, 123, rfl⟩
abbrev main_while0b_call3_c_1 : Ref sig .tc := ⟨.hbm, 124, rfl⟩
abbrev main_while0b_call3_c_2 : Ref sig .tc := ⟨.hbm, 125, rfl⟩
abbrev main_while0b_v100 : Ref sig .tc := ⟨.hbm, 126, rfl⟩
abbrev main_while0b_c_19 : Ref sig .tc := ⟨.hbm, 127, rfl⟩
abbrev main_while0b_v101 : Ref sig .tc := ⟨.hbm, 128, rfl⟩
abbrev main_v58 : Ref sig .tc := ⟨.hbm, 129, rfl⟩
abbrev main_v59 : Ref sig .tc := ⟨.hbm, 130, rfl⟩
abbrev main_v60 : Ref sig .tc := ⟨.hbm, 131, rfl⟩
abbrev main_v61 : Ref sig .tc := ⟨.hbm, 132, rfl⟩
abbrev main_cst_7 : Ref sig .tc := ⟨.hbm, 133, rfl⟩
abbrev main_v62 : Ref sig .tc := ⟨.hbm, 134, rfl⟩
abbrev main_v63 : Ref sig .tc := ⟨.hbm, 135, rfl⟩
abbrev main_cst_8 : Ref sig .tc := ⟨.hbm, 136, rfl⟩
abbrev main_v64 : Ref sig .tc := ⟨.hbm, 137, rfl⟩
abbrev main_v65 : Ref sig .tc := ⟨.hbm, 138, rfl⟩
abbrev main_cst_9 : Ref sig .tc := ⟨.hbm, 139, rfl⟩
abbrev main_v66 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_v70 : Ref sig .tc := ⟨.hbm, 144, rfl⟩
abbrev main_v71 : Ref sig .tc := ⟨.hbm, 145, rfl⟩
abbrev main_v72 : Ref sig .tc := ⟨.hbm, 146, rfl⟩
abbrev main_v73 : Ref sig .tc := ⟨.hbm, 147, rfl⟩
abbrev main_v74 : Ref sig .tc := ⟨.hbm, 148, rfl⟩
abbrev main_v75 : Ref sig .tc := ⟨.hbm, 149, rfl⟩
abbrev main_v76 : Ref sig .tc := ⟨.hbm, 150, rfl⟩
abbrev main_v77 : Ref sig .tc := ⟨.hbm, 151, rfl⟩
abbrev main_v78 : Ref sig .tc := ⟨.hbm, 152, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S32768x1024 : Shape := ⟨2, ![32768, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1024x1024 : Shape := ⟨2, ![1024, 1024]⟩
abbrev S1024x2816 : Shape := ⟨2, ![1024, 2816]⟩
abbrev S1024x1 : Shape := ⟨2, ![1024, 1]⟩
abbrev S1024x256 : Shape := ⟨2, ![1024, 256]⟩

abbrev nBuf : Space → Nat
  | .hbm => 8
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1x1024, .f32⟩
  | .hbm, ⟨5, _⟩ => ⟨S1024x5632, .bf16⟩
  | .hbm, ⟨6, _⟩ => ⟨S2816x1024, .bf16⟩
  | .hbm, ⟨7, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x2816, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S32768x1024 : Shape := ⟨2, ![32768, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x5632 : Shape := ⟨2, ![32768, 5632]⟩
abbrev S32768x2816 : Shape := ⟨2, ![32768, 2816]⟩

abbrev nBuf : Space → Nat
  | .hbm => 35
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S32768x1024, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x1024, .f32⟩
  | .hbm, ⟨16, _⟩ => ⟨S32768x1024, .f32⟩
  | .hbm, ⟨17, _⟩ => ⟨S1x1024, .f32⟩
  | .hbm, ⟨18, _⟩ => ⟨S32768x1024, .f32⟩
  | .hbm, ⟨19, _⟩ => ⟨S32768x1024, .f32⟩
  | .hbm, ⟨20, _⟩ => ⟨S32768x5632, .f32⟩
  | .hbm, ⟨21, _⟩ => ⟨S32768x2816, .f32⟩
  | .hbm, ⟨22, _⟩ => ⟨S32768x2816, .f32⟩
  | .hbm, ⟨23, _⟩ => ⟨S32768x2816, .f32⟩
  | .hbm, ⟨24, _⟩ => ⟨S32768x2816, .f32⟩
  | .hbm, ⟨25, _⟩ => ⟨S_, .f32⟩
  | .hbm, ⟨26, _⟩ => ⟨S32768x2816, .f32⟩
  | .hbm, ⟨27, _⟩ => ⟨S32768x2816, .f32⟩
  | .hbm, ⟨28, _⟩ => ⟨S_, .f32⟩
  | .hbm, ⟨29, _⟩ => ⟨S32768x2816, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S32768x1024, .f32⟩
  | .hbm, ⟨34, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩

abbrev nD : Nat := 1
abbrev τ : Topo := Topo.v7x

variable {F : FTy → Type} [FloatOps F]
-- ==== Kernel3.lean ====
abbrev S32768x1024 : Shape := ⟨2, ![32768, 1024]⟩
abbrev S1024 : Shape := ⟨1, ![1024]⟩
abbrev S1024x6144 : Shape := ⟨2, ![1024, 6144]⟩
abbrev S1024x1024 : Shape := ⟨2, ![1024, 1024]⟩
abbrev S1024x2048 : Shape := ⟨2, ![1024, 2048]⟩
abbrev S128 : Shape := ⟨1, ![128]⟩
abbrev S_ : Shape := ⟨0, ![]⟩
abbrev S4096 : Shape := ⟨1, ![4096]⟩
abbrev S4096x1 : Shape := ⟨2, ![4096, 1]⟩
abbrev S1x128 : Shape := ⟨2, ![1, 128]⟩
abbrev S4096x128 : Shape := ⟨2, ![4096, 128]⟩
abbrev S1x1024 : Shape := ⟨2, ![1, 1024]⟩
abbrev S128x4096 : Shape := ⟨2, ![128, 4096]⟩
abbrev S8x16x1024x256 : Shape := ⟨4, ![8, 16, 1024, 256]⟩
abbrev S32768x2048 : Shape := ⟨2, ![32768, 2048]⟩
abbrev S512x1024 : Shape := ⟨2, ![512, 1024]⟩
abbrev S512x128 : Shape := ⟨2, ![512, 128]⟩
abbrev S128x512 : Shape := ⟨2, ![128, 512]⟩
abbrev S1x2x1024x256 : Shape := ⟨4, ![1, 2, 1024, 256]⟩
abbrev S512x2048 : Shape := ⟨2, ![512, 2048]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S512x512 : Shape := ⟨2, ![512, 512]⟩
abbrev S256x512 : Shape := ⟨2, ![256, 512]⟩
abbrev S128x256 : Shape := ⟨2, ![128, 256]⟩
abbrev S1x1x128x256 : Shape := ⟨4, ![1, 1, 128, 256]⟩
abbrev S1024x512 : Shape := ⟨2, ![1024, 512]⟩

abbrev nBuf : Space → Nat
  | .hbm => 35
  | .vmem => 23
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x6144, .f32⟩
  | .hbm, ⟨3, _⟩ => ⟨S1024x1024, .f32⟩
  | .hbm, ⟨4, _⟩ => ⟨S1024x1024, .bf16⟩
  | .hbm, ⟨5, _⟩ => ⟨S1024x1024, .f32⟩
  | .hbm, ⟨6, _⟩ => ⟨S1024x1024, .f32⟩
  | .hbm, ⟨7, _⟩ => ⟨S1024x1024, .bf16⟩
  | .hbm, ⟨8, _⟩ => ⟨S1024x2048, .f32⟩
  | .hbm, ⟨9, _⟩ => ⟨S1024x2048, .bf16⟩
  | .hbm, ⟨10, _⟩ => ⟨S1024x2048, .f32⟩
  | .hbm, ⟨11, _⟩ => ⟨S1024x2048, .bf16⟩
  | .hbm, ⟨12, _⟩ => ⟨S128, .f32⟩
  | .hbm, ⟨13, _⟩ => ⟨S128, .f32⟩
  | .hbm, ⟨14, _⟩ => ⟨S_, .f32⟩
  | .hbm, ⟨15, _⟩ => ⟨S128, .f32⟩
  | .hbm, ⟨16, _⟩ => ⟨S128, .f32⟩
  | .hbm, ⟨17, _⟩ => ⟨S_, .f32⟩
  | .hbm, ⟨18, _⟩ => ⟨S128, .f32⟩
  | .hbm, ⟨19, _⟩ => ⟨S128, .f32⟩
  | .hbm, ⟨20, _⟩ => ⟨S4096, .f32⟩
  | .hbm, ⟨21, _⟩ => ⟨S4096x1, .f32⟩
  | .hbm, ⟨22, _⟩ => ⟨S1x128, .f32⟩
  | .hbm, ⟨23, _⟩ => ⟨S4096x128, .f32⟩
  | .hbm, ⟨24, _⟩ => ⟨S4096x128, .f32⟩
  | .hbm, ⟨25, _⟩ => ⟨S4096x128, .f32⟩
  | .hbm, ⟨26, _⟩ => ⟨S4096x128, .f32⟩
  | .hbm, ⟨27, _⟩ => ⟨S4096x128, .f32⟩
  | .hbm, ⟨28, _⟩ => ⟨S1x1024, .f32⟩
  | .hbm, ⟨29, _⟩ => ⟨S128x4096, .f32⟩
  | .hbm, ⟨30, _⟩ => ⟨S128x4096, .f32⟩
  | .hbm, ⟨31, _⟩ => ⟨S32768x1024, .bf16⟩
  | .hbm, ⟨32, _⟩ => ⟨S8x16x1024x256, .bf16⟩
  | .hbm, ⟨33, _⟩ => ⟨S32768x2048, .bf16⟩
  | .hbm, ⟨34, _⟩ => ⟨S32768x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x2048, .bf16⟩
  | .local _ .vmem, ⟨6, _⟩ => ⟨S1024x2048, .bf16⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S512x1024, .bf16⟩
  | .local _ .vmem, ⟨16, _⟩ => ⟨S512x1024, .bf16⟩
  | .local _ .vmem, ⟨17, _⟩ => ⟨S1x2x1024x256, .bf16⟩
  | .local _ .vmem, ⟨18, _⟩ => ⟨S1x2x1024x256, .bf16⟩
  | .local _ .vmem, ⟨19, _⟩ => ⟨S512x2048, .bf16⟩
  | .local _ .vmem, ⟨20, _⟩ => ⟨S512x2048, .bf16⟩
  | .local _ .vmem, ⟨21, _⟩ => ⟨S512x2048, .bf16⟩
  | .local _ .vmem, ⟨22, _⟩ => ⟨S512x2048, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26_0 : Ref sig .tc := ⟨.hbm, 31, rfl⟩
abbrev main_v26_1 : Ref sig .tc := ⟨.hbm, 32, rfl⟩
abbrev main_v26_2 : Ref sig .tc := ⟨.hbm, 33, rfl⟩
abbrev main_v26_3 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_9 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x2x1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference3Ideal.lean ====
abbrev S32768x1024 : Shape := ⟨2, ![32768, 1024]⟩
abbrev S1024 : Shape := ⟨1, ![1024]⟩
abbrev S1024x6144 : Shape := ⟨2, ![1024, 6144]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x6144 : Shape := ⟨2, ![32768, 6144]⟩
abbrev S32768x2048 : Shape := ⟨2, ![32768, 2048]⟩
abbrev S4096 : Shape := ⟨1, ![4096]⟩
abbrev S8x4096x4x256 : Shape := ⟨4, ![8, 4096, 4, 256]⟩
abbrev S128 : Shape := ⟨1, ![128]⟩
abbrev S4096x1 : Shape := ⟨2, ![4096, 1]⟩
abbrev S1x128 : Shape := ⟨2, ![1, 128]⟩
abbrev S4096x128 : Shape := ⟨2, ![4096, 128]⟩
abbrev S1x4096x1x128 : Shape := ⟨4, ![1, 4096, 1, 128]⟩
abbrev S8x4096x4x128 : Shape := ⟨4, ![8, 4096, 4, 128]⟩
abbrev S8x16x256x1024 : Shape := ⟨4, ![8, 16, 256, 1024]⟩
abbrev S8x16x1024x256 : Shape := ⟨4, ![8, 16, 1024, 256]⟩

abbrev nBuf : Space → Nat
  | .hbm => 108
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x6144, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x6144, .f32⟩
  | .hbm, ⟨20, _⟩ => ⟨S32768x1024, .f32⟩
  | .hbm, ⟨21, _⟩ => ⟨S32768x1024, .f32⟩
  | .hbm, ⟨22, _⟩ => ⟨S32768x2048, .f32⟩
  | .hbm, ⟨23, _⟩ => ⟨S32768x2048, .f32⟩
  | .hbm, ⟨24, _⟩ => ⟨S4096, .i32⟩
  | .hbm, ⟨25, _⟩ => ⟨S8x4096x4x256, .f32⟩
  | .hbm, ⟨26, _⟩ => ⟨S128, .f32⟩
  | .hbm, ⟨27, _⟩ => ⟨S128, .f32⟩
  | .hbm, ⟨28, _⟩ => ⟨S_, .f32⟩
  | .hbm, ⟨29, _⟩ => ⟨S128, .f32⟩
  | .hbm, ⟨30, _⟩ => ⟨S128, .f32⟩
  | .hbm, ⟨31, _⟩ => ⟨S_, .f32⟩
  | .hbm, ⟨32, _⟩ => ⟨S128, .f32⟩
  | .hbm, ⟨33, _⟩ => ⟨S128, .f32⟩
  | .hbm, ⟨34, _⟩ => ⟨S4096, .f32⟩
  | .hbm, ⟨35, _⟩ => ⟨S4096x1, .f32⟩
  | .hbm, ⟨36, _⟩ => ⟨S1x128, .f32⟩
  | .hbm, ⟨37, _⟩ => ⟨S4096x128, .f32⟩
  | .hbm, ⟨38, _⟩ => ⟨S4096x128, .f32⟩
  | .hbm, ⟨39, _⟩ => ⟨S4096x128, .f32⟩
  | .hbm, ⟨40, _⟩ => ⟨S4096x128, .f32⟩
  | .hbm, ⟨41, _⟩ => ⟨S1x4096x1x128, .f32⟩
  | .hbm, ⟨42, _⟩ => ⟨S4096x128, .f32⟩
  | .hbm, ⟨43, _⟩ => ⟨S1x4096x1x128, .f32⟩
  | .hbm, ⟨44, _⟩ => ⟨S8x4096x4x128, .f32⟩
  | .hbm, ⟨45, _⟩ => ⟨S8x4096x4x128, .f32⟩
  | .hbm, ⟨46, _⟩ => ⟨S8x4096x4x128, .f32⟩
  | .hbm, ⟨47, _⟩ => ⟨S8x4096x4x128, .f32⟩
  | .hbm, ⟨48, _⟩ => ⟨S8x4096x4x128, .f32⟩
  | .hbm, ⟨49, _⟩ => ⟨S8x4096x4x128, .f32⟩
  | .hbm, ⟨50, _⟩ => ⟨S8x4096x4x128, .f32⟩
  | .hbm, ⟨51, _⟩ => ⟨S8x4096x4x128, .f32⟩
  | .hbm, ⟨52, _⟩ => ⟨S8x4096x4x128, .f32⟩
  | .hbm, ⟨53, _⟩ => ⟨S8x4096x4x128, .f32⟩
  | .hbm, ⟨54, _⟩ => ⟨S8x4096x4x128, .f32⟩
  | .hbm, ⟨55, _⟩ => ⟨S8x4096x4x128, .f32⟩
  | .hbm, ⟨56, _⟩ => ⟨S8x4096x4x256, .f32⟩
  | .hbm, ⟨57, _⟩ => ⟨S8x4096x4x256, .f32⟩
  | .hbm, ⟨58, _⟩ => ⟨S128, .f32⟩
  | .hbm, ⟨59, _⟩ => ⟨S128, .f32⟩
  | .hbm, ⟨60, _⟩ => ⟨S_, .f32⟩
  | .hbm, ⟨61, _⟩ => ⟨S128, .f32⟩
  | .hbm, ⟨62, _⟩ => ⟨S128, .f32⟩
  | .hbm, ⟨63, _⟩ => ⟨S_, .f32⟩
  | .hbm, ⟨64, _⟩ => ⟨S128, .f32⟩
  | .hbm, ⟨65, _⟩ => ⟨S128, .f32⟩
  | .hbm, ⟨66, _⟩ => ⟨S4096, .f32⟩
  | .hbm, ⟨67, _⟩ => ⟨S4096x1, .f32⟩
  | .hbm, ⟨68, _⟩ => ⟨S1x128, .f32⟩
  | .hbm, ⟨69, _⟩ => ⟨S4096x128, .f32⟩
  | .hbm, ⟨70, _⟩ => ⟨S4096x128, .f32⟩
  | .hbm, ⟨71, _⟩ => ⟨S4096x128, .f32⟩
  | .hbm, ⟨72, _⟩ => ⟨S4096x128, .f32⟩
  | .hbm, ⟨73, _⟩ => ⟨S1x4096x1x128, .f32⟩
  | .hbm, ⟨74, _⟩ => ⟨S4096x128, .f32⟩
  | .hbm, ⟨75, _⟩ => ⟨S1x4096x1x128, .f32⟩
  | .hbm, ⟨76, _⟩ => ⟨S8x4096x4x128, .f32⟩
  | .hbm, ⟨77, _⟩ => ⟨S8x4096x4x128, .f32⟩
  | .hbm, ⟨78, _⟩ => ⟨S8x4096x4x128, .f32⟩
  | .hbm, ⟨79, _⟩ => ⟨S8x4096x4x128, .f32⟩
  | .hbm, ⟨80, _⟩ => ⟨S8x4096x4x128, .f32⟩
  | .hbm, ⟨81, _⟩ => ⟨S8x4096x4x128, .f32⟩
  | .hbm, ⟨82, _⟩ => ⟨S8x4096x4x128, .f32⟩
  | .hbm, ⟨83, _⟩ => ⟨S8x4096x4x128, .f32⟩
  | .hbm, ⟨84, _⟩ => ⟨S8x4096x4x128, .f32⟩
  | .hbm, ⟨85, _⟩ => ⟨S8x4096x4x128, .f32⟩
  | .hbm, ⟨86, _⟩ => ⟨S8x4096x4x128, .f32⟩
  | .hbm, ⟨87, _⟩ => ⟨S8x4096x4x128, .f32⟩
  | .hbm, ⟨88, _⟩ => ⟨S8x4096x4x256, .f32⟩
  | .hbm, ⟨89, _⟩ => ⟨S_, .f32⟩
  | .hbm, ⟨90, _⟩ => ⟨S8x4096x4x256, .f32⟩
  | .hbm, ⟨91, _⟩ => ⟨S8x4096x4x256, .f32⟩
  | .hbm, ⟨92, _⟩ => ⟨S8x16x256x1024, .f32⟩
  | .hbm, ⟨93, _⟩ => ⟨S8x16x1024x256, .f32⟩
  | .hbm, ⟨94, _⟩ => ⟨S32768x1024, .f32⟩
  | .hbm, ⟨95, _⟩ => ⟨S32768x1024, .bf16⟩
  | .hbm, ⟨96, _⟩ => ⟨S8x16x1024x256, .bf16⟩
  | .hbm, ⟨97, _⟩ => ⟨S32768x2048, .bf16⟩
  | .hbm, ⟨98, _⟩ => ⟨S32768x2048, .f32⟩
  | .hbm, ⟨99, _⟩ => ⟨S32768x2048, .f32⟩
  | .hbm, ⟨100, _⟩ => ⟨S_, .f32⟩
  | .hbm, ⟨101, _⟩ => ⟨S32768x2048, .f32⟩
  | .hbm, ⟨102, _⟩ => ⟨S32768x2048, .f32⟩
  | .hbm, ⟨103, _⟩ => ⟨S_, .f32⟩
  | .hbm, ⟨104, _⟩ => ⟨S32768x2048, .f32⟩
  | .hbm, ⟨105, _⟩ => ⟨S32768x2048, .f32⟩
  | .hbm, ⟨106, _⟩ => ⟨S32768x2048, .f32⟩
  | .hbm, ⟨107, _⟩ => ⟨S32768x2048, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_cst_4 : Ref sig .tc := ⟨.hbm, 60, rfl⟩
abbrev main_v52 : Ref sig .tc := ⟨.hbm, 61, rfl⟩
abbrev main_v53 : Ref sig .tc := ⟨.hbm, 62, rfl⟩
abbrev main_cst_5 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_cst_6 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_call0_v0 : Ref sig .tc := ⟨.hbm, 98, rfl⟩
abbrev main_call0_v1 : Ref sig .tc := ⟨.hbm, 99, rfl⟩
abbrev main_call0_cst : Ref sig .tc := ⟨.hbm, 100, rfl⟩
abbrev main_call0_v2 : Ref sig .tc := ⟨.hbm, 101, rfl⟩
abbrev main_call0_v3 : Ref sig .tc := ⟨.hbm, 102, rfl⟩
abbrev main_call0_cst_0 : Ref sig .tc := ⟨.hbm, 103, rfl⟩
abbrev main_call0_v4 : Ref sig .tc := ⟨.hbm, 104, rfl⟩
abbrev main_call0_v5 : Ref sig .tc := ⟨.hbm, 105, rfl⟩
abbrev main_v87 : Ref sig .tc := ⟨.hbm, 106, rfl⟩
abbrev main_v88 : Ref sig .tc := ⟨.hbm, 107, rfl⟩

abbrev nD : Nat := 1
abbrev τ : Topo := Topo.v7x

variable {F : FTy → Type} [FloatOps F]
-- ==== Kernel4.lean ====
abbrev S32768x1024 : Shape := ⟨2, ![32768, 1024]⟩
abbrev S1024 : Shape := ⟨1, ![1024]⟩
abbrev S1024x2048 : Shape := ⟨2, ![1024, 2048]⟩
abbrev S64 : Shape := ⟨1, ![64]⟩
abbrev S1024x1024 : Shape := ⟨2, ![1024, 1024]⟩
abbrev S1x1024 : Shape := ⟨2, ![1, 1024]⟩
abbrev S64x1 : Shape := ⟨2, ![64, 1]⟩
abbrev S_ : Shape := ⟨0, ![]⟩
abbrev S8x16x1280x256 : Shape := ⟨4, ![8, 16, 1280, 256]⟩
abbrev S8x16x2048x256 : Shape := ⟨4, ![8, 16, 2048, 256]⟩
abbrev S1x4x1280x256 : Shape := ⟨4, ![1, 4, 1280, 256]⟩
abbrev S1x4x2048x256 : Shape := ⟨4, ![1, 4, 2048, 256]⟩
abbrev S1024x1 : Shape := ⟨2, ![1024, 1]⟩
abbrev S16x1024 : Shape := ⟨2, ![16, 1024]⟩
abbrev S64x1024 : Shape := ⟨2, ![64, 1024]⟩
abbrev S256x1024 : Shape := ⟨2, ![256, 1024]⟩
abbrev S1024x256 : Shape := ⟨2, ![1024, 256]⟩
abbrev S64x256 : Shape := ⟨2, ![64, 256]⟩
abbrev S1x1x64x256 : Shape := ⟨4, ![1, 1, 64, 256]⟩
abbrev S16x256 : Shape := ⟨2, ![16, 256]⟩
abbrev S1x1x16x256 : Shape := ⟨4, ![1, 1, 16, 256]⟩

abbrev nBuf : Space → Nat
  | .hbm => 25
  | .vmem => 15
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2048, .f32⟩
  | .hbm, ⟨3, _⟩ => ⟨S64, .f32⟩
  | .hbm, ⟨4, _⟩ => ⟨S1024, .f32⟩
  | .hbm, ⟨5, _⟩ => ⟨S1024x1024, .f32⟩
  | .hbm, ⟨6, _⟩ => ⟨S64, .f32⟩
  | .hbm, ⟨7, _⟩ => ⟨S1x1024, .f32⟩
  | .hbm, ⟨8, _⟩ => ⟨S1x1024, .f32⟩
  | .hbm, ⟨9, _⟩ => ⟨S1024x1024, .f32⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1024x1024, .f32⟩
  | .hbm, ⟨14, _⟩ => ⟨S1024x1024, .bf16⟩
  | .hbm, ⟨15, _⟩ => ⟨S1024x1024, .f32⟩
  | .hbm, ⟨16, _⟩ => ⟨S1024x1024, .bf16⟩
  | .hbm, ⟨17, _⟩ => ⟨S64x1, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S64x1, .f32⟩
  | .hbm, ⟨22, _⟩ => ⟨S32768x1024, .bf16⟩
  | .hbm, ⟨23, _⟩ => ⟨S8x16x1280x256, .bf16⟩
  | .hbm, ⟨24, _⟩ => ⟨S8x16x2048x256, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S64x1, .f32⟩
  | .local _ .vmem, ⟨8, _⟩ => ⟨S64x1, .f32⟩
  | .local _ .vmem, ⟨9, _⟩ => ⟨S1024x1024, .bf16⟩
  | .local _ .vmem, ⟨10, _⟩ => ⟨S1024x1024, .bf16⟩
  | .local _ .vmem, ⟨11, _⟩ => ⟨S1x4x1280x256, .bf16⟩
  | .local _ .vmem, ⟨12, _⟩ => ⟨S1x4x1280x256, .bf16⟩
  | .local _ .vmem, ⟨13, _⟩ => ⟨S1x4x2048x256, .bf16⟩
  | .local _ .vmem, ⟨14, _⟩ => ⟨S1x4x2048x256, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev main_v14_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_10 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x4x1280x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x4x2048x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference4Ideal.lean ====
abbrev S32768x1024 : Shape := ⟨2, ![32768, 1024]⟩
abbrev S1024 : Shape := ⟨1, ![1024]⟩
abbrev S1024x2048 : Shape := ⟨2, ![1024, 2048]⟩
abbrev S64 : Shape := ⟨1, ![64]⟩
abbrev S1024x1024 : Shape := ⟨2, ![1024, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2048 : Shape := ⟨2, ![32768, 2048]⟩
abbrev S32768x16x64 : Shape := ⟨3, ![32768, 16, 64]⟩
abbrev S32768x16 : Shape := ⟨2, ![32768, 16]⟩
abbrev S32768x16x1 : Shape := ⟨3, ![32768, 16, 1]⟩
abbrev S1x1x64 : Shape := ⟨3, ![1, 1, 64]⟩
abbrev S8x16x256x16x64 : Shape := ⟨5, ![8, 16, 256, 16, 64]⟩
abbrev S8x16x16x64x256 : Shape := ⟨5, ![8, 16, 16, 64, 256]⟩
abbrev S8x16x16x16x256 : Shape := ⟨5, ![8, 16, 16, 16, 256]⟩
abbrev S8x16x16x80x256 : Shape := ⟨5, ![8, 16, 16, 80, 256]⟩
abbrev S16 : Shape := ⟨1, ![16]⟩
abbrev S16x1 : Shape := ⟨2, ![16, 1]⟩
abbrev S2 : Shape := ⟨1, ![2]⟩
abbrev S1x2 : Shape := ⟨2, ![1, 2]⟩
abbrev S16x2 : Shape := ⟨2, ![16, 2]⟩
abbrev S1x1x16x2x1x1 : Shape := ⟨6, ![1, 1, 16, 2, 1, 1]⟩
abbrev S8x16x16x1x64x256 : Shape := ⟨6, ![8, 16, 16, 1, 64, 256]⟩
abbrev S8x16x16x2x64x256 : Shape := ⟨6, ![8, 16, 16, 2, 64, 256]⟩
abbrev S8x16x1280x256 : Shape := ⟨4, ![8, 16, 1280, 256]⟩
abbrev S8x16x2048x256 : Shape := ⟨4, ![8, 16, 2048, 256]⟩

abbrev nBuf : Space → Nat
  | .hbm => 130
  | .vmem => 0
  | .smem => 0
  | _ => 0

abbrev hbmTy0_0 (i : Nat) : BufTy := match i % 128 with
  | 0 => ⟨S32768x1024, .f32⟩
  | 1 => ⟨S1024, .f32⟩
  | 2 => ⟨S1024x2048, .f32⟩
  | 3 => ⟨S64, .f32⟩
  | 4 => ⟨S1024, .f32⟩
  | 5 => ⟨S1024x1024, .f32⟩
  | 6 => ⟨S64, .f32⟩
  | 7 => ⟨S32768x1024, .f32⟩
  | 8 => ⟨S_, .f32⟩
  | 9 => ⟨S32768, .f32⟩
  | 10 => ⟨S32768x1, .f32⟩
  | 11 => ⟨S_, .f32⟩
  | 12 => ⟨S32768x1, .f32⟩
  | 13 => ⟨S32768x1, .f32⟩
  | 14 => ⟨S_, .f32⟩
  | 15 => ⟨S32768x1, .f32⟩
  | 16 => ⟨S32768x1, .f32⟩
  | 17 => ⟨S32768x1, .f32⟩
  | 18 => ⟨S32768x1024, .f32⟩
  | 19 => ⟨S32768x1024, .f32⟩
  | 20 => ⟨S1x1024, .f32⟩
  | 21 => ⟨S32768x1024, .f32⟩
  | 22 => ⟨S32768x1024, .f32⟩
  | 23 => ⟨S32768x2048, .f32⟩
  | 24 => ⟨S32768x1024, .f32⟩
  | 25 => ⟨S32768x1024, .f32⟩
  | 26 => ⟨S32768x16x64, .f32⟩
  | 27 => ⟨S32768x16x64, .f32⟩
  | 28 => ⟨S_, .f32⟩
  | 29 => ⟨S32768x16, .f32⟩
  | 30 => ⟨S32768x16x1, .f32⟩
  | 31 => ⟨S_, .f32⟩
  | 32 => ⟨S32768x16x1, .f32⟩
  | 33 => ⟨S32768x16x1, .f32⟩
  | 34 => ⟨S_, .f32⟩
  | 35 => ⟨S32768x16x1, .f32⟩
  | 36 => ⟨S32768x16x1, .f32⟩
  | 37 => ⟨S32768x16x1, .f32⟩
  | 38 => ⟨S32768x16x64, .f32⟩
  | 39 => ⟨S32768x16x64, .f32⟩
  | 40 => ⟨S1x1x64, .f32⟩
  | 41 => ⟨S32768x16x64, .f32⟩
  | 42 => ⟨S32768x16x64, .f32⟩
  | 43 => ⟨S32768x1024, .f32⟩
  | 44 => ⟨S_, .f32⟩
  | 45 => ⟨S32768, .f32⟩
  | 46 => ⟨S32768x1, .f32⟩
  | 47 => ⟨S_, .f32⟩
  | 48 => ⟨S32768x1, .f32⟩
  | 49 => ⟨S32768x1, .f32⟩
  | 50 => ⟨S_, .f32⟩
  | 51 => ⟨S32768x1, .f32⟩
  | 52 => ⟨S32768x1, .f32⟩
  | 53 => ⟨S32768x1, .f32⟩
  | 54 => ⟨S32768x1024, .f32⟩
  | 55 => ⟨S32768x1024, .f32⟩
  | 56 => ⟨S1x1024, .f32⟩
  | 57 => ⟨S32768x1024, .f32⟩
  | 58 => ⟨S32768x1024, .f32⟩
  | 59 => ⟨S32768x1024, .f32⟩
  | 60 => ⟨S32768x16x64, .f32⟩
  | 61 => ⟨S32768x16x64, .f32⟩
  | 62 => ⟨S_, .f32⟩
  | 63 => ⟨S32768x16, .f32⟩
  | 64 => ⟨S32768x16x1, .f32⟩
  | 65 => ⟨S_, .f32⟩
  | 66 => ⟨S32768x16x1, .f32⟩
  | 67 => ⟨S32768x16x1, .f32⟩
  | 68 => ⟨S_, .f32⟩
  | 69 => ⟨S32768x16x1, .f32⟩
  | 70 => ⟨S32768x16x1, .f32⟩
  | 71 => ⟨S32768x16x1, .f32⟩
  | 72 => ⟨S32768x16x64, .f32⟩
  | 73 => ⟨S32768x16x64, .f32⟩
  | 74 => ⟨S1x1x64, .f32⟩
  | 75 => ⟨S32768x16x64, .f32⟩
  | 76 => ⟨S32768x16x64, .f32⟩
  | 77 => ⟨S_, .f32⟩
  | 78 => ⟨S32768x16x64, .f32⟩
  | 79 => ⟨S32768x16x64, .f32⟩
  | 80 => ⟨S8x16x256x16x64, .f32⟩
  | 81 => ⟨S8x16x16x64x256, .f32⟩
  | 82 => ⟨S_, .f32⟩
  | 83 => ⟨S8x16x16x16x256, .f32⟩
  | 84 => ⟨S8x16x16x80x256, .f32⟩
  | 85 => ⟨S16, .i32⟩
  | 86 => ⟨S16x1, .i32⟩
  | 87 => ⟨S_, .i32⟩
  | 88 => ⟨S_, .i32⟩
  | 89 => ⟨S_, .i32⟩
  | 90 => ⟨S_, .i1⟩
  | 91 => ⟨S_, .i32⟩
  | 92 => ⟨S_, .i32⟩
  | 93 => ⟨S16x1, .i32⟩
  | 94 => ⟨S16x1, .i32⟩
  | 95 => ⟨S_, .i32⟩
  | 96 => ⟨S16x1, .i32⟩
  | 97 => ⟨S16x1, .i1⟩
  | 98 => ⟨S_, .i32⟩
  | 99 => ⟨S16x1, .i32⟩
  | 100 => ⟨S16x1, .i1⟩
  | 101 => ⟨S_, .i32⟩
  | 102 => ⟨S_, .i1⟩
  | 103 => ⟨S16x1, .i1⟩
  | 104 => ⟨S16x1, .i1⟩
  | 105 => ⟨S16x1, .i1⟩
  | 106 => ⟨S16x1, .i32⟩
  | 107 => ⟨S16x1, .i32⟩
  | 108 => ⟨S16x1, .i32⟩
  | 109 => ⟨S2, .i32⟩
  | 110 => ⟨S1x2, .i32⟩
  | 111 => ⟨S16x2, .i32⟩
  | 112 => ⟨S16x2, .i32⟩
  | 113 => ⟨S16x2, .i1⟩
  | 114 => ⟨S1x1x16x2x1x1, .i1⟩
  | 115 => ⟨S8x16x256x16x64, .f32⟩
  | 116 => ⟨S8x16x16x64x256, .f32⟩
  | 117 => ⟨S8x16x16x1x64x256, .f32⟩
  | 118 => ⟨S_, .f32⟩
  | 119 => ⟨S_, .f32⟩
  | 120 => ⟨S8x16x16x2x64x256, .i1⟩
  | 121 => ⟨S8x16x16x2x64x256, .f32⟩
  | 122 => ⟨S8x16x16x2x64x256, .f32⟩
  | 123 => ⟨S8x16x16x2x64x256, .f32⟩
  | 124 => ⟨S32768x1024, .f32⟩
  | 125 => ⟨S32768x1024, .bf16⟩
  | 126 => ⟨S8x16x1280x256, .f32⟩
  | 127 => ⟨S8x16x1280x256, .bf16⟩
  | _ => ⟨S32768x1024, .f32⟩

abbrev hbmTy0_1 (i : Nat) : BufTy := match i % 128 with
  | 0 => ⟨S8x16x2048x256, .f32⟩
  | 1 => ⟨S8x16x2048x256, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_8 : Ref sig .tc := ⟨.hbm, 62, rfl⟩
abbrev main_v46 : Ref sig .tc := ⟨.hbm, 63, rfl⟩
abbrev main_v47 : Ref sig .tc := ⟨.hbm, 64, rfl⟩
abbrev main_cst_9 : Ref sig .tc := ⟨.hbm, 65, rfl⟩
abbrev main_v48 : Ref sig .tc := ⟨.hbm, 66, rfl⟩
abbrev main_v49 : Ref sig .tc := ⟨.hbm, 67, rfl⟩
abbrev main_cst_10 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_11 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_12 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_c : Ref sig .tc := ⟨.hbm, 87, rfl⟩
abbrev main_call0_v0 : Ref sig .tc := ⟨.hbm, 88, rfl⟩
abbrev main_call0_c : Ref sig .tc := ⟨.hbm, 89, rfl⟩
abbrev main_call0_v1 : Ref sig .tc := ⟨.hbm, 90, rfl⟩
abbrev main_call0_c_0 : Ref sig .tc := ⟨.hbm, 91, rfl⟩
abbrev main_call0_v2 : Ref sig .tc := ⟨.hbm, 92, rfl⟩
abbrev main_call0_v3 : Ref sig .tc := ⟨.hbm, 93, rfl⟩
abbrev main_call0_v4 : Ref sig .tc := ⟨.hbm, 94, rfl⟩
abbrev main_call0_c_1 : Ref sig .tc := ⟨.hbm, 95, rfl⟩
abbrev main_call0_v5 : Ref sig .tc := ⟨.hbm, 96, rfl⟩
abbrev main_call0_v6 : Ref sig .tc := ⟨.hbm, 97, rfl⟩
abbrev main_call0_c_2 : Ref sig .tc := ⟨.hbm, 98, rfl⟩
abbrev main_call0_v7 : Ref sig .tc := ⟨.hbm, 99, rfl⟩
abbrev main_call0_v8 : Ref sig .tc := ⟨.hbm, 100, rfl⟩
abbrev main_call0_c_3 : Ref sig .tc := ⟨.hbm, 101, rfl⟩
abbrev main_call0_v9 : Ref sig .tc := ⟨.hbm, 102, rfl⟩
abbrev main_call0_v10 : Ref sig .tc := ⟨.hbm, 103, rfl⟩
abbrev main_call0_v11 : Ref sig .tc := ⟨.hbm, 104, rfl⟩
abbrev main_call0_v12 : Ref sig .tc := ⟨.hbm, 105, rfl⟩
abbrev main_call0_v13 : Ref sig .tc := ⟨.hbm, 106, rfl⟩
abbrev main_call0_v14 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_cst_13 : Ref sig .tc := ⟨.hbm, 118, rfl⟩
abbrev main_call1_v0 : Ref sig .tc := ⟨.hbm, 119, rfl⟩
abbrev main_call1_v1 : Ref sig .tc := ⟨.hbm, 120, rfl⟩
abbrev main_call1_v2 : Ref sig .tc := ⟨.hbm, 121, rfl⟩
abbrev main_call1_v3 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩

abbrev nD : Nat := 1
abbrev τ : Topo := Topo.v7x

variable {F : FTy → Type} [FloatOps F]
-- ==== Kernel5.lean ====
abbrev S16x513 : Shape := ⟨2, ![16, 513]⟩
abbrev S_ : Shape := ⟨0, ![]⟩
abbrev S16x640 : Shape := ⟨2, ![16, 640]⟩
abbrev S16x768x256 : Shape := ⟨3, ![16, 768, 256]⟩
abbrev S640x1024 : Shape := ⟨2, ![640, 1024]⟩
abbrev S16x1024 : Shape := ⟨2, ![16, 1024]⟩
abbrev S768x256 : Shape := ⟨2, ![768, 256]⟩
abbrev S1x1024 : Shape := ⟨2, ![1, 1024]⟩
abbrev S768x1024 : Shape := ⟨2, ![768, 1024]⟩
abbrev S1x768x256 : Shape := ⟨3, ![1, 768, 256]⟩

abbrev nBuf : Space → Nat
  | .hbm => 5
  | .vmem => 2
  | .smem => 0
  | _ => 0

abbrev bufTy : (tb : Table) → Fin (tcTables nBuf tb) → BufTy
  | .hbm, ⟨0, _⟩ => ⟨S16x513, .f32⟩
  | .hbm, ⟨1, _⟩ => ⟨S_, .i32⟩
  | .hbm, ⟨2, _⟩ => ⟨S_, .f32⟩
  | .hbm, ⟨3, _⟩ => ⟨S16x640, .f32⟩
  | .hbm, ⟨4, _⟩ => ⟨S16x768x256, .f32⟩
  | .local _ .vmem, ⟨0, _⟩ => ⟨S16x640, .f32⟩
  | .local _ .vmem, ⟨1, _⟩ => ⟨S16x768x256, .f32⟩
  | _, _ => ⟨S16x513, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S16x640 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x768x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference5Ideal.lean ====
abbrev S16x513 : Shape := ⟨2, ![16, 513]⟩
abbrev S768 : Shape := ⟨1, ![768]⟩
abbrev S768x1 : Shape := ⟨2, ![768, 1]⟩
abbrev S256 : Shape := ⟨1, ![256]⟩
abbrev S1x256 : Shape := ⟨2, ![1, 256]⟩
abbrev S_ : Shape := ⟨0, ![]⟩
abbrev S768x256 : Shape := ⟨2, ![768, 256]⟩
abbrev S768x256x1 : Shape := ⟨3, ![768, 256, 1]⟩
abbrev S16x768x256 : Shape := ⟨3, ![16, 768, 256]⟩
abbrev S1x768x256 : Shape := ⟨3, ![1, 768, 256]⟩

abbrev nBuf : Space → Nat
  | .hbm => 122
  | .vmem => 0
  | .smem => 0
  | _ => 0

abbrev bufTy : (tb : Table) → Fin (tcTables nBuf tb) → BufTy
  | .hbm, ⟨0, _⟩ => ⟨S16x513, .f32⟩
  | .hbm, ⟨1, _⟩ => ⟨S768, .i32⟩
  | .hbm, ⟨2, _⟩ => ⟨S768x1, .i32⟩
  | .hbm, ⟨3, _⟩ => ⟨S256, .i32⟩
  | .hbm, ⟨4, _⟩ => ⟨S1x256, .i32⟩
  | .hbm, ⟨5, _⟩ => ⟨S_, .i32⟩
  | .hbm, ⟨6, _⟩ => ⟨S1x256, .i32⟩
  | .hbm, ⟨7, _⟩ => ⟨S1x256, .i32⟩
  | .hbm, ⟨8, _⟩ => ⟨S768x256, .i32⟩
  | .hbm, ⟨9, _⟩ => ⟨S768x256, .i32⟩
  | .hbm, ⟨10, _⟩ => ⟨S768x256, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S768x256, .i32⟩
  | .hbm, ⟨15, _⟩ => ⟨S768x256, .i32⟩
  | .hbm, ⟨16, _⟩ => ⟨S_, .i32⟩
  | .hbm, ⟨17, _⟩ => ⟨S768x256, .i32⟩
  | .hbm, ⟨18, _⟩ => ⟨S768x256, .i32⟩
  | .hbm, ⟨19, _⟩ => ⟨S_, .i32⟩
  | .hbm, ⟨20, _⟩ => ⟨S768x256, .i32⟩
  | .hbm, ⟨21, _⟩ => ⟨S768x256, .i32⟩
  | .hbm, ⟨22, _⟩ => ⟨S_, .i32⟩
  | .hbm, ⟨23, _⟩ => ⟨S768x256, .i32⟩
  | .hbm, ⟨24, _⟩ => ⟨S768x256, .i1⟩
  | .hbm, ⟨25, _⟩ => ⟨S_, .i32⟩
  | .hbm, ⟨26, _⟩ => ⟨S768x256, .i32⟩
  | .hbm, ⟨27, _⟩ => ⟨S768x256, .i32⟩
  | .hbm, ⟨28, _⟩ => ⟨S768x256, .i32⟩
  | .hbm, ⟨29, _⟩ => ⟨S768x256x1, .i32⟩
  | .hbm, ⟨30, _⟩ => ⟨S16x768x256, .f32⟩
  | .hbm, ⟨31, _⟩ => ⟨S_, .f32⟩
  | .hbm, ⟨32, _⟩ => ⟨S16x768x256, .f32⟩
  | .hbm, ⟨33, _⟩ => ⟨S16x768x256, .f32⟩
  | .hbm, ⟨34, _⟩ => ⟨S_, .i32⟩
  | .hbm, ⟨35, _⟩ => ⟨S_, .i32⟩
  | .hbm, ⟨36, _⟩ => ⟨S768x1, .i32⟩
  | .hbm, ⟨37, _⟩ => ⟨S768x1, .i32⟩
  | .hbm, ⟨38, _⟩ => ⟨S768x1, .i32⟩
  | .hbm, ⟨39, _⟩ => ⟨S_, .i32⟩
  | .hbm, ⟨40, _⟩ => ⟨S768x1, .i32⟩
  | .hbm, ⟨41, _⟩ => ⟨S768x1, .i1⟩
  | .hbm, ⟨42, _⟩ => ⟨S768x1, .i32⟩
  | .hbm, ⟨43, _⟩ => ⟨S768x1, .i32⟩
  | .hbm, ⟨44, _⟩ => ⟨S_, .i32⟩
  | .hbm, ⟨45, _⟩ => ⟨S768x1, .i32⟩
  | .hbm, ⟨46, _⟩ => ⟨S768x1, .i1⟩
  | .hbm, ⟨47, _⟩ => ⟨S768x1, .i1⟩
  | .hbm, ⟨48, _⟩ => ⟨S_, .i32⟩
  | .hbm, ⟨49, _⟩ => ⟨S768x1, .i32⟩
  | .hbm, ⟨50, _⟩ => ⟨S768x1, .i32⟩
  | .hbm, ⟨51, _⟩ => ⟨S768x1, .i32⟩
  | .hbm, ⟨52, _⟩ => ⟨S_, .i32⟩
  | .hbm, ⟨53, _⟩ => ⟨S_, .i32⟩
  | .hbm, ⟨54, _⟩ => ⟨S1x256, .i32⟩
  | .hbm, ⟨55, _⟩ => ⟨S1x256, .i32⟩
  | .hbm, ⟨56, _⟩ => ⟨S1x256, .i32⟩
  | .hbm, ⟨57, _⟩ => ⟨S_, .i32⟩
  | .hbm, ⟨58, _⟩ => ⟨S1x256, .i32⟩
  | .hbm, ⟨59, _⟩ => ⟨S1x256, .i1⟩
  | .hbm, ⟨60, _⟩ => ⟨S1x256, .i32⟩
  | .hbm, ⟨61, _⟩ => ⟨S1x256, .i32⟩
  | .hbm, ⟨62, _⟩ => ⟨S_, .i32⟩
  | .hbm, ⟨63, _⟩ => ⟨S1x256, .i32⟩
  | .hbm, ⟨64, _⟩ => ⟨S1x256, .i1⟩
  | .hbm, ⟨65, _⟩ => ⟨S1x256, .i1⟩
  | .hbm, ⟨66, _⟩ => ⟨S_, .i32⟩
  | .hbm, ⟨67, _⟩ => ⟨S1x256, .i32⟩
  | .hbm, ⟨68, _⟩ => ⟨S1x256, .i32⟩
  | .hbm, ⟨69, _⟩ => ⟨S1x256, .i32⟩
  | .hbm, ⟨70, _⟩ => ⟨S768x256, .i32⟩
  | .hbm, ⟨71, _⟩ => ⟨S768x256, .i32⟩
  | .hbm, ⟨72, _⟩ => ⟨S768x256, .i1⟩
  | .hbm, ⟨73, _⟩ => ⟨S_, .i32⟩
  | .hbm, ⟨74, _⟩ => ⟨S_, .i32⟩
  | .hbm, ⟨75, _⟩ => ⟨S768x1, .i32⟩
  | .hbm, ⟨76, _⟩ => ⟨S768x1, .i32⟩
  | .hbm, ⟨77, _⟩ => ⟨S768x1, .i32⟩
  | .hbm, ⟨78, _⟩ => ⟨S_, .i32⟩
  | .hbm, ⟨79, _⟩ => ⟨S768x1, .i32⟩
  | .hbm, ⟨80, _⟩ => ⟨S768x1, .i1⟩
  | .hbm, ⟨81, _⟩ => ⟨S768x1, .i32⟩
  | .hbm, ⟨82, _⟩ => ⟨S768x1, .i32⟩
  | .hbm, ⟨83, _⟩ => ⟨S_, .i32⟩
  | .hbm, ⟨84, _⟩ => ⟨S768x1, .i32⟩
  | .hbm, ⟨85, _⟩ => ⟨S768x1, .i1⟩
  | .hbm, ⟨86, _⟩ => ⟨S768x1, .i1⟩
  | .hbm, ⟨87, _⟩ => ⟨S_, .i32⟩
  | .hbm, ⟨88, _⟩ => ⟨S768x1, .i32⟩
  | .hbm, ⟨89, _⟩ => ⟨S768x1, .i32⟩
  | .hbm, ⟨90, _⟩ => ⟨S768x1, .i32⟩
  | .hbm, ⟨91, _⟩ => ⟨S_, .i32⟩
  | .hbm, ⟨92, _⟩ => ⟨S_, .i32⟩
  | .hbm, ⟨93, _⟩ => ⟨S1x256, .i32⟩
  | .hbm, ⟨94, _⟩ => ⟨S1x256, .i32⟩
  | .hbm, ⟨95, _⟩ => ⟨S1x256, .i32⟩
  | .hbm, ⟨96, _⟩ => ⟨S_, .i32⟩
  | .hbm, ⟨97, _⟩ => ⟨S1x256, .i32⟩
  | .hbm, ⟨98, _⟩ => ⟨S1x256, .i1⟩
  | .hbm, ⟨99, _⟩ => ⟨S1x256, .i32⟩
  | .hbm, ⟨100, _⟩ => ⟨S1x256, .i32⟩
  | .hbm, ⟨101, _⟩ => ⟨S_, .i32⟩
  | .hbm, ⟨102, _⟩ => ⟨S1x256, .i32⟩
  | .hbm, ⟨103, _⟩ => ⟨S1x256, .i1⟩
  | .hbm, ⟨104, _⟩ => ⟨S1x256, .i1⟩
  | .hbm, ⟨105, _⟩ => ⟨S_, .i32⟩
  | .hbm, ⟨106, _⟩ => ⟨S1x256, .i32⟩
  | .hbm, ⟨107, _⟩ => ⟨S1x256, .i32⟩
  | .hbm, ⟨108, _⟩ => ⟨S1x256, .i32⟩
  | .hbm, ⟨109, _⟩ => ⟨S_, .i32⟩
  | .hbm, ⟨110, _⟩ => ⟨S1x256, .i32⟩
  | .hbm, ⟨111, _⟩ => ⟨S1x256, .i32⟩
  | .hbm, ⟨112, _⟩ => ⟨S768x256, .i32⟩
  | .hbm, ⟨113, _⟩ => ⟨S768x256, .i32⟩
  | .hbm, ⟨114, _⟩ => ⟨S768x256, .i1⟩
  | .hbm, ⟨115, _⟩ => ⟨S768x256, .i1⟩
  | .hbm, ⟨116, _⟩ => ⟨S1x768x256, .i1⟩
  | .hbm, ⟨117, _⟩ => ⟨S_, .f32⟩
  | .hbm, ⟨118, _⟩ => ⟨S_, .f32⟩
  | .hbm, ⟨119, _⟩ => ⟨S16x768x256, .i1⟩
  | .hbm, ⟨120, _⟩ => ⟨S16x768x256, .f32⟩
  | .hbm, ⟨121, _⟩ => ⟨S16x768x256, .f32⟩
  | _, _ => ⟨S16x513, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_c_3 : Ref sig .tc := ⟨.hbm, 22, rfl⟩
abbrev main_v12 : Ref sig .tc := ⟨.hbm, 23, rfl⟩
abbrev main_v13 : Ref sig .tc := ⟨.hbm, 24, rfl⟩
abbrev main_c_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_c_5 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_c : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_0 : Ref sig .tc := ⟨.hbm, 48, rfl⟩
abbrev main_call1_v12 : Ref sig .tc := ⟨.hbm, 49, rfl⟩
abbrev main_call1_v13 : Ref sig .tc := ⟨.hbm, 50, rfl⟩
abbrev main_v21 : Ref sig .tc := ⟨.hbm, 51, rfl⟩
abbrev main_c_6 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_v5 : Ref sig .tc := ⟨.hbm, 58, rfl⟩
abbrev main_call2_v6 : Ref sig .tc := ⟨.hbm, 59, rfl⟩
abbrev main_call2_v7 : Ref sig .tc := ⟨.hbm, 60, rfl⟩
abbrev main_call2_v8 : Ref sig .tc := ⟨.hbm, 61, rfl⟩
abbrev main_call2_c : Ref sig .tc := ⟨.hbm, 62, rfl⟩
abbrev main_call2_v9 : Ref sig .tc := ⟨.hbm, 63, rfl⟩
abbrev main_call2_v10 : Ref sig .tc := ⟨.hbm, 64, rfl⟩
abbrev main_call2_v11 : Ref sig .tc := ⟨.hbm, 65, rfl⟩
abbrev main_call2_c_0 : Ref sig .tc := ⟨.hbm, 66, rfl⟩
abbrev main_call2_v12 : Ref sig .tc := ⟨.hbm, 67, rfl⟩
abbrev main_call2_v13 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_c_7 : Ref sig .tc := ⟨.hbm, 73, rfl⟩
abbrev main_call3_v0 : Ref sig .tc := ⟨.hbm, 74, rfl⟩
abbrev main_call3_v1 : Ref sig .tc := ⟨.hbm, 75, rfl⟩
abbrev main_call3_v2 : Ref sig .tc := ⟨.hbm, 76, rfl⟩
abbrev main_call3_v3 : Ref sig .tc := ⟨.hbm, 77, rfl⟩
abbrev main_call3_v4 : Ref sig .tc := ⟨.hbm, 78, rfl⟩
abbrev main_call3_v5 : Ref sig .tc := ⟨.hbm, 79, rfl⟩
abbrev main_call3_v6 : Ref sig .tc := ⟨.hbm, 80, rfl⟩
abbrev main_call3_v7 : Ref sig .tc := ⟨.hbm, 81, rfl⟩
abbrev main_call3_v8 : Ref sig .tc := ⟨.hbm, 82, rfl⟩
abbrev main_call3_c : Ref sig .tc := ⟨.hbm, 83, rfl⟩
abbrev main_call3_v9 : Ref sig .tc := ⟨.hbm, 84, rfl⟩
abbrev main_call3_v10 : Ref sig .tc := ⟨.hbm, 85, rfl⟩
abbrev main_call3_v11 : Ref sig .tc := ⟨.hbm, 86, rfl⟩
abbrev main_call3_c_0 : Ref sig .tc := ⟨.hbm, 87, rfl⟩
abbrev main_call3_v12 : Ref sig .tc := ⟨.hbm, 88, rfl⟩
abbrev main_call3_v13 : Ref sig .tc := ⟨.hbm, 89, rfl⟩
abbrev main_v26 : Ref sig .tc := ⟨.hbm, 90, rfl⟩
abbrev main_c_8 : Ref sig .tc := ⟨.hbm, 91, rfl⟩
abbrev main_call4_v0 : Ref sig .tc := ⟨.hbm, 92, rfl⟩
abbrev main_call4_v1 : Ref sig .tc := ⟨.hbm, 93, rfl⟩
abbrev main_call4_v2 : Ref sig .tc := ⟨.hbm, 94, rfl⟩
abbrev main_call4_v3 : Ref sig .tc := ⟨.hbm, 95, rfl⟩
abbrev main_call4_v4 : Ref sig .tc := ⟨.hbm, 96, rfl⟩
abbrev main_call4_v5 : Ref sig .tc := ⟨.hbm, 97, rfl⟩
abbrev main_call4_v6 : Ref sig .tc := ⟨.hbm, 98, rfl⟩
abbrev main_call4_v7 : Ref sig .tc := ⟨.hbm, 99, rfl⟩
abbrev main_call4_v8 : Ref sig .tc := ⟨.hbm, 100, rfl⟩
abbrev main_call4_c : Ref sig .tc := ⟨.hbm, 101, rfl⟩
abbrev main_call4_v9 : Ref sig .tc := ⟨.hbm, 102, rfl⟩
abbrev main_call4_v10 : Ref sig .tc := ⟨.hbm, 103, rfl⟩
abbrev main_call4_v11 : Ref sig .tc := ⟨.hbm, 104, rfl⟩
abbrev main_call4_c_0 : Ref sig .tc := ⟨.hbm, 105, rfl⟩
abbrev main_call4_v12 : Ref sig .tc := ⟨.hbm, 106, rfl⟩
abbrev main_call4_v13 : Ref sig .tc := ⟨.hbm, 107, rfl⟩
abbrev main_v27 : Ref sig .tc := ⟨.hbm, 108, rfl⟩
abbrev main_c_9 : Ref sig .tc := ⟨.hbm, 109, rfl⟩
abbrev main_v28 : Ref sig .tc := ⟨.hbm, 110, rfl⟩
abbrev main_v29 : Ref sig .tc := ⟨.hbm, 111, rfl⟩
abbrev main_v30 : Ref sig .tc := ⟨.hbm, 112, rfl⟩
abbrev main_v31 : Ref sig .tc := ⟨.hbm, 113, rfl⟩
abbrev main_v32 : Ref sig .tc := ⟨.hbm, 114, rfl⟩
abbrev main_v33 : Ref sig .tc := ⟨.hbm, 115, rfl⟩
abbrev main_v34 : Ref sig .tc := ⟨.hbm, 116, rfl⟩
abbrev main_cst_10 : Ref sig .tc := ⟨.hbm, 117, rfl⟩
abbrev main_call5_v0 : Ref sig .tc := ⟨.hbm, 118, rfl⟩
abbrev main_call5_v1 : Ref sig .tc := ⟨.hbm, 119, rfl⟩
abbrev main_call5_v2 : Ref sig .tc := ⟨.hbm, 120, rfl⟩
abbrev main_v35 : Ref sig .tc := ⟨.hbm, 121, rfl⟩

abbrev nD : Nat := 1
abbrev τ : Topo := Topo.v7x

variable {F : FTy → Type} [FloatOps F]
-- ==== Proof.BiasSpec.lean ====
module

public import Idealize.ShloMosaic.Lib.Pointwise

@[expose] public section

noncomputable section

open Idealize.ShloMosaic

namespace Cert.Bias

/-- The entry of the biases that a key and a query of a window take: their clipped distance, counted from the table's start. -/
abbrev entry (k : Fin 768) (q : Fin 256) : Fin 513 := ⟨min 512 (768 + q - k), by omega⟩

/-- Whether a key of a window is in a query's band: its chunk is the query's or one of the eight before, the query's being the ninth on. -/
abbrev inBand (k : Fin 768) (q : Fin 256) : Prop := q.val / 64 ≤ k.val / 64 ∧ k.val / 64 ≤ q.val / 64 + 8

/-- The table: a head's bias in base two in the band, minus infinity outside. -/
def table (b : Fin 513 → EReal) (k : Fin 768) (q : Fin 256) : EReal :=
  if inBand k q then b (entry k q) * Ideal.ofBits .f32 1069066811#32 else Ideal.ofBits .f32 4286578688#32

/-- The comparisons of a key's chunk and a query's, as words. -/
theorem band_word : ∀ (a : Fin 12) (b : Fin 4), IntOp.andi (IntOp.cmpi .sge (BitVec.ofNat 32 a.val) (BitVec.ofNat 32 b.val))
    (IntOp.cmpi .sle (BitVec.ofNat 32 a.val) (IntOp.addi (BitVec.ofNat 32 b.val) 8#32)) =
      if b.val ≤ a.val ∧ a.val ≤ b.val + 8 then 1#1 else 0#1 := by
  decide +kernel

end Cert.Bias
-- ==== Proof.BiasBlock.lean ====
module

public import proofs.«01_k».proof.Defs
public import proofs.«01_k».proof.Proof.BiasSpec
public import proofs.«01_k».proof.Proof.Gen.Kernel5Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel5Ideal.Bias

open Cert.Kernel5Ideal Cert.Kernel5Ideal.Gen Cert.Bias

/-- The kernel's chunk of a row of the window, as a word. -/
theorem chunk_word : ∀ n : Fin 768, Scalar.select
          (IntOp.andi
            (IntOp.cmpi CmpIPredicate.ne
              (IntOp.subi (BitVec.setWidth 32 (IntOp.cmpi CmpIPredicate.sgt (BitVec.ofNat 32 n.val) 0#32))
                (BitVec.setWidth 32 (IntOp.cmpi CmpIPredicate.slt (BitVec.ofNat 32 n.val) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 n.val) 64#32) 0#32))
          (IntOp.subi (IntOp.divsi ArithUnit.vector (BitVec.ofNat 32 n.val) 64#32) 1#32)
          (IntOp.divsi ArithUnit.vector (BitVec.ofNat 32 n.val) 64#32) = BitVec.ofNat 32 (n.val / 64) := by
  decide +kernel

/-- The same of a natural number. -/
theorem chunk_nat (n : ℕ) (hn : n < 768) : Scalar.select
          (IntOp.andi
            (IntOp.cmpi CmpIPredicate.ne
              (IntOp.subi (BitVec.setWidth 32 (IntOp.cmpi CmpIPredicate.sgt (BitVec.ofNat 32 n) 0#32))
                (BitVec.setWidth 32 (IntOp.cmpi CmpIPredicate.slt (BitVec.ofNat 32 n) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 n) 64#32) 0#32))
          (IntOp.subi (IntOp.divsi ArithUnit.vector (BitVec.ofNat 32 n) 64#32) 1#32)
          (IntOp.divsi ArithUnit.vector (BitVec.ofNat 32 n) 64#32) = BitVec.ofNat 32 (n / 64) :=
  chunk_word ⟨n, hn⟩

/-- The kernel's mask of a key and a query: whether the key is in the query's band. -/
theorem mask_at (x : Vec Ideal S16x640 .f32) (k : Fin 768) (q : Fin 256) :
    k0_pay26 (F := Ideal) x (ix2 k q) = if inBand k q then 1#1 else 0#1 := by
  show k0_pay5 (iota .tc S768x256 32 [0] iota_S768x256_d0_w32) 64#32 k0_pay3 k0_pay4 (ix2 k q) = _
  open_payloads
  pointwise
  rw [chunk_nat k.val (by omega), chunk_nat q.val (by omega)]
  exact band_word ⟨k.val / 64, by omega⟩ ⟨q.val / 64, by omega⟩

/-- The entry of the biases that a lane of the kernel's vector takes. -/
def lane (l : ℕ) : ℕ := if l < 256 then min 512 (768 + l) else min 512 (l - 256)

/-- The kernel's entry of a lane, as a word. -/
theorem lane_word : ∀ l : Fin 1024, IntOp.addi
    (IntOp.minsi (256#32) (IntOp.maxsi (4294967040#32) (IntOp.addi (512#32)
      (Scalar.select (IntOp.cmpi CmpIPredicate.slt (BitVec.ofNat 32 l.val) 256#32)
        (BitVec.ofNat 32 l.val) (IntOp.subi (BitVec.ofNat 32 l.val) 1024#32))))) 256#32 = BitVec.ofNat 32 (lane l.val) := by
  decide +kernel

/-- A comparison of two small numbers for equality, as an ideal number: one where they are equal, else zero. -/
theorem hot (a b : ℕ) (ha : a < 2 ^ 32) (hb : b < 2 ^ 32) :
    FloatOps.sitofp (F := Ideal) FTy.f32 (BitVec.setWidth 32 (IntOp.cmpi .eq (BitVec.ofNat 32 a) (BitVec.ofNat 32 b))) =
      if a = b then (1 : EReal) else 0 := by
  rw [WordCmp.cmpi_eq_eq_toNat, BitVec.toNat_ofNat, BitVec.toNat_ofNat, Nat.mod_eq_of_lt ha, Nat.mod_eq_of_lt hb]
  by_cases h : a = b
  · rw [if_pos h, decide_eq_true h]
    show ((((BitVec.setWidth 32 (BitVec.ofBool true)).toInt : ℤ) : ℝ) : EReal) = 1
    rw [show (BitVec.setWidth 32 (BitVec.ofBool true)).toInt = 1 from by decide]
    simp
  · rw [if_neg h, decide_eq_false h]
    show ((((BitVec.setWidth 32 (BitVec.ofBool false)).toInt : ℤ) : ℝ) : EReal) = 0
    rw [show (BitVec.setWidth 32 (BitVec.ofBool false)).toInt = 0 from by decide]
    simp

/-- A sum of products with such comparisons takes one entry. -/
theorem sum_hot (f : Fin 640 → EReal) (c : ℕ) (hc : c < 640) :
    ∑ e : Fin 640, f e * FloatOps.sitofp (F := Ideal) FTy.f32
      (BitVec.setWidth 32 (IntOp.cmpi .eq (BitVec.ofNat 32 e.val) (BitVec.ofNat 32 c))) = f ⟨c, hc⟩ := by
  rw [Finset.sum_eq_single (⟨c, hc⟩ : Fin 640)]
  · rw [hot c c (by omega) (by omega), if_pos rfl, mul_one]
  · intro e _ he
    rw [hot e.val c (by omega) (by omega), if_neg (fun h => he (Fin.ext h)), mul_zero]
  · intro h
    exact absurd (Finset.mem_univ _) h

/-- A lane's entry is one of the biases. -/
theorem lane_lt (l : Fin 1024) : lane l.val < 513 := by
  unfold lane
  split <;> omega

/-- The kernel's vector of a head: at each lane the head's bias of the lane's entry, in base two. Of a finite bias, what the split leaves over is zero. -/
theorem vec_at (x : Vec Ideal S16x640 .f32) (hx : ∀ (h : Fin 16) (e : Fin 640), ∃ r : ℝ, x (ix2 h e) = (r : EReal)) (h : Fin 16) (l : Fin 1024) :
    k0_pay25 (F := Ideal) x (ix2 h l) =
      (x (ix2 h ⟨lane l.val, (lane_lt l).trans (by decide)⟩) : EReal) * Ideal.ofBits .f32 1069066811#32 := by
  unfold k0_pay25
  open_payloads
  pointwise
  simp only [lane_word]
  have hl : lane l.val < 640 := (lane_lt l).trans (by decide)
  have s0 := sum_hot (fun e => x (ix2 h e)) (lane l.val) hl
  have z : ∀ e : Fin 640, (x (ix2 h e) : EReal) - x (ix2 h e) = 0 := fun e => by
    obtain ⟨r, hr⟩ := hx h e
    rw [hr, ← EReal.coe_sub, sub_self, EReal.coe_zero]
  have s1 := sum_hot (fun e => (x (ix2 h e) : EReal) - x (ix2 h e)) (lane l.val) hl
  have s2 := sum_hot (fun e => ((x (ix2 h e) : EReal) - x (ix2 h e)) - ((x (ix2 h e) : EReal) - x (ix2 h e))) (lane l.val) hl
  refine congrArg (fun w : EReal => w * Ideal.ofBits .f32 1069066811#32) ?_
  refine (congrArg₂ (fun a b : EReal => a + b) (congrArg₂ (fun a b : EReal => a + b) s0 s1) s2).trans ?_
  show (x (ix2 h ⟨lane l.val, hl⟩) : EReal) + ((x (ix2 h ⟨lane l.val, hl⟩) : EReal) - x (ix2 h ⟨lane l.val, hl⟩)) +
    (((x (ix2 h ⟨lane l.val, hl⟩) : EReal) - x (ix2 h ⟨lane l.val, hl⟩)) -
      ((x (ix2 h ⟨lane l.val, hl⟩) : EReal) - x (ix2 h ⟨lane l.val, hl⟩))) = _
  rw [z, sub_zero, add_zero, add_zero]

/-- The lane a key's rolled row reads at a query. -/
abbrev roll (k : Fin 768) (q : Fin 256) : Fin 1024 := ⟨(q.val + 1024 - k.val % 1024) % 1024, Nat.mod_lt _ (by decide)⟩

/-- The bias of that lane is the one of the key and the query. -/
theorem lane_roll (k : Fin 768) (q : Fin 256) : lane (roll k q).val = (entry k q).val := by
  show lane ((q.val + 1024 - k.val % 1024) % 1024) = min 512 (768 + q.val - k.val)
  unfold lane
  split <;> omega

/-- Equal heads, keys and queries have equal entries. -/
theorem entry_of_eq (v : FVec Ideal S16x1024 .f32) (b : IVec S768x256 1) {h h' : Fin 16} {k k' : Fin 768} {q q' : Fin 256}
    (eh : h.val = h'.val) (ek : k.val = k'.val) (eq : q.val = q'.val) :
    Scalar.select (b (ix2 k' q')) (v (ix2 h' (roll k' q'))) (Ideal.ofBits .f32 4286578688#32) =
      Scalar.select (b (ix2 k q)) (v (ix2 h (roll k q))) (Ideal.ofBits .f32 4286578688#32) := by
  obtain rfl := Fin.ext eh
  obtain rfl := Fin.ext ek
  obtain rfl := Fin.ext eq
  rfl

/-- The kernel's block, from its vector and mask: a head's row rolled by the key's number, masked. -/
theorem out_roll (x : Vec Ideal S16x640 .f32) (h : Fin 16) (k : Fin 768) (q : Fin 256) :
    out0_1 (F := Ideal) x (ix3 h k q) =
      Scalar.select (k0_pay26 (F := Ideal) x (ix2 k q)) (k0_pay25 (F := Ideal) x (ix2 h (roll k q))) (Ideal.ofBits .f32 4286578688#32) := by
  unfold out0_1
  generalize k0_pay25 (F := Ideal) x = v
  generalize k0_pay26 (F := Ideal) x = b
  clear x
  canon_tiles z w
  all_goals
    open_payloads
    pointwise
    replace w0 : (h : ℕ) = _ := w0
    refine entry_of_eq v b ?_ w1 w2
    omega

/-- The kernel's block of finite biases: the table of each head. -/
theorem out_at (x : Vec Ideal S16x640 .f32) (hx : ∀ (h : Fin 16) (e : Fin 640), ∃ r : ℝ, x (ix2 h e) = (r : EReal))
    (h : Fin 16) (k : Fin 768) (q : Fin 256) :
    out0_1 (F := Ideal) x (ix3 h k q) = table (fun e => x (ix2 h ⟨e.val, e.isLt.trans (by decide)⟩)) k q := by
  rw [out_roll, mask_at, vec_at x hx, table]
  have e : (⟨lane (roll k q).val, (lane_lt (roll k q)).trans (by decide)⟩ : Fin 640) =
      ⟨(entry k q).val, (entry k q).isLt.trans (by decide)⟩ := Fin.ext (lane_roll k q)
  rw [e]
  by_cases hb : inBand k q
  · rw [if_pos hb, if_pos hb]
    rfl
  · rw [if_neg hb, if_neg hb]
    rfl

end Cert.Kernel5Ideal.Bias
-- ==== Proof.BiasArray.lean ====
module

public import proofs.«01_k».proof.Defs
public import proofs.«01_k».proof.Proof.BiasBlock
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Kernel5Ideal.Bias

open Cert.Kernel5Ideal Cert.Kernel5Ideal.Gen Cert.Bias

variable (m : (ℓ : Loc nD τ sig) → Buf (Elt Ideal) ℓ)
variable (c : Dev nD) (t : Fin cfg0.N)

/-- The one point's blocks are whole. -/
theorem idx : ∀ t : Fin cfg0.N, win0_0.index t = ![0, 0] ∧ win0_1.index t = ![0, 0, 0] :=
  (by decide +kernel : ∀ t : Fin grid0.N, _)

/-- The array the kernel is given: the biases, padded with zeros. -/
theorem tab : (show FVec Ideal S16x640 .f32 from V m c main_v0) = pad S16x640 ![0, 0] ![0, 127] ![0, 0]
    (show FVec Ideal S16x513 .f32 from m ((c : Thread nD τ).loc main_arg0)) (sitofp .f32 (constantI S_ 32 0#32)) pads_S16x513_S16x640_000_01270 h_S_ := by
  unfold Gen.V
  simp only [Gen.hostOps0, List.flatten_cons, List.flatten_nil, List.cons_append, List.nil_append, List.append_nil]
  after_reads_simp
  rfl

/-- The padded biases, where they are biases. -/
theorem tab_bias (h : Fin 16) (e : Fin 513) : (show FVec Ideal S16x640 .f32 from V m c main_v0) (ix2 h ⟨e.val, e.isLt.trans (by decide)⟩) =
    m ((c : Thread nD τ).loc main_arg0) (ix2 h e) := by
  rw [tab]
  pointwise

/-- The padding. -/
theorem tab_zero (h : Fin 16) (e : Fin 640) (he : 513 ≤ e.val) : (show FVec Ideal S16x640 .f32 from V m c main_v0) (ix2 h e) = (0 : EReal) := by
  rw [tab]
  pointwise
  rw [dif_neg (by omega)]
  show ((((0#32 : BitVec 32).toInt : ℤ) : ℝ) : EReal) = 0
  rw [show (0#32 : BitVec 32).toInt = 0 from by decide]
  simp

/-- The point's block is the padded biases whole. -/
theorem in_x : (show FVec Ideal S16x640 .f32 from iblk m c 0 t) = (show FVec Ideal S16x640 .f32 from V m c main_v0) := by
  unfold iblk
  funext i
  blk_point [idx t]

/-- A head's table from the argument. -/
abbrev tables (h : Fin 16) (k : Fin 768) (q : Fin 256) : EReal :=
  table (fun e => m ((c : Thread nD τ).loc main_arg0) (ix2 h e)) k q

/-- The one point's block of finite biases. -/
theorem out_of (hx : ∀ (h : Fin 16) (e : Fin 513), ∃ r : ℝ, m ((c : Thread nD τ).loc main_arg0) (ix2 h e) = (r : EReal))
    (h : Fin 16) (k : Fin 768) (q : Fin 256) {h' : Fin 16} {k' : Fin 768} {q' : Fin 256} (eh : h.val = h'.val) (ek : k.val = k'.val) (eq : q.val = q'.val) :
    out0_1 (F := Ideal) (iblk m c 0 t) (ix3 h k q) = tables m c h' k' q' := by
  obtain rfl := Fin.ext eh
  obtain rfl := Fin.ext ek
  obtain rfl := Fin.ext eq
  have e0 := in_x m c t
  refine (out_at (show FVec Ideal S16x640 .f32 from iblk m c 0 t) ?_ h k q).trans ?_
  · intro h e
    by_cases he : e.val < 513
    · obtain ⟨r, hr⟩ := hx h ⟨e.val, he⟩
      exact ⟨r, (congrFun e0 (ix2 h e)).trans ((tab_bias m c h ⟨e.val, he⟩).trans hr)⟩
    · exact ⟨0, (congrFun e0 (ix2 h e)).trans (tab_zero m c h e (by omega))⟩
  · exact congrArg (fun f => table f k q) (funext fun e => (congrFun e0 (ix2 h ⟨e.val, e.isLt.trans (by decide)⟩)).trans (tab_bias m c h e))

/-- The table after the run. -/
theorem final (hx : ∀ (h : Fin 16) (e : Fin 513), ∃ r : ℝ, m ((c : Thread nD τ).loc main_arg0) (ix2 h e) = (r : EReal)) :
    (dats m 0 c).arrAt 1 cfg0.N = fun i : S16x768x256.Idx => tables m c (i 0) (i 1) (i 2) := by
  refine (dats m 0 c).arrAt_eq_of_covers 1 _ (by decide +kernel) fun t _ y => ?_
  blk_simp
  rw [after0_1]
  exact (congrArg (out0_1 (F := Ideal) (iblk m c 0 t)) (eq_ix3 y)).trans
    (out_of m c t hx (y 0) (y 1) (y 2) (by blk_simp [idx t]) (by blk_simp [idx t]) (by blk_simp [idx t]))

end Cert.Kernel5Ideal.Bias
-- ==== Proof.BiasRef.lean ====
module

public import proofs.«01_k».proof.Defs
public import proofs.«01_k».proof.Proof.BiasSpec
public import proofs.«01_k».proof.Proof.Gen.Reference5Ideal.Read
public import Idealize.ShloMosaic.Lib.Pointwise

@[expose] public section

set_option maxRecDepth 16384

noncomputable section

open Idealize.ShloMosaic Idealize.ShloMosaic.TcCoe

namespace Cert.Reference5Ideal.Bias

open Cert.Reference5Ideal Cert.Reference5Ideal.Gen Cert.Reference5Ideal.Read Cert.Bias

/-- The reference's chunk of a row of the window, as a word. -/
theorem chunk_word : ∀ n : Fin 768, Scalar.select
      (IntOp.andi
        (IntOp.cmpi CmpIPredicate.ne
          (if BitVec.ofNat 32 n.val = 0 then (0 : BitVec 32) else if (BitVec.ofNat 32 n.val).msb = true then (-1 : BitVec 32) else 1)
          (if (64#32 : BitVec 32) = 0 then (0 : BitVec 32) else if BitVec.msb 64#32 = true then (-1 : BitVec 32) else 1))
        (IntOp.cmpi CmpIPredicate.ne (IntOp.remsi ArithUnit.host (BitVec.ofNat 32 n.val) 64#32) 0#32))
      (IntOp.subi (IntOp.divsi ArithUnit.host (BitVec.ofNat 32 n.val) 64#32) 1#32)
      (IntOp.divsi ArithUnit.host (BitVec.ofNat 32 n.val) 64#32) = BitVec.ofNat 32 (n.val / 64) := by
  decide +kernel

/-- The same of a natural number. -/
theorem chunk_nat (n : ℕ) (hn : n < 768) : Scalar.select
      (IntOp.andi
        (IntOp.cmpi CmpIPredicate.ne
          (if BitVec.ofNat 32 n = 0 then (0 : BitVec 32) else if (BitVec.ofNat 32 n).msb = true then (-1 : BitVec 32) else 1)
          (if (64#32 : BitVec 32) = 0 then (0 : BitVec 32) else if BitVec.msb 64#32 = true then (-1 : BitVec 32) else 1))
        (IntOp.cmpi CmpIPredicate.ne (IntOp.remsi ArithUnit.host (BitVec.ofNat 32 n) 64#32) 0#32))
      (IntOp.subi (IntOp.divsi ArithUnit.host (BitVec.ofNat 32 n) 64#32) 1#32)
      (IntOp.divsi ArithUnit.host (BitVec.ofNat 32 n) 64#32) = BitVec.ofNat 32 (n / 64) :=
  chunk_word ⟨n, hn⟩

/-- The reference's mask of a key and a query: whether the key is in the query's band. -/
theorem mask_at (k : Fin 768) (q : Fin 256) : val_main_v33 (F := Ideal) (ix2 k q) = if inBand k q then 1#1 else 0#1 := by
  pointwise [val_main_c_5, val_main_call1_v0, val_main_call1_v1, val_main_call1_v2, val_main_call1_v3, val_main_call1_v4, val_main_call1_v5, val_main_call1_v6, val_main_call1_v7, val_main_call1_v8, val_main_call1_c, val_main_call1_v9, val_main_call1_v10, val_main_call1_v11, val_main_call1_c_0, val_main_call1_v12, val_main_call1_v13, val_main_v21, val_main_c_6, val_main_call2_v0, val_main_call2_v1, val_main_call2_v2, val_main_call2_v3, val_main_call2_v4, val_main_call2_v5, val_main_call2_v6, val_main_call2_v7, val_main_call2_v8, val_main_call2_c, val_main_call2_v9, val_main_call2_v10, val_main_call2_v11, val_main_call2_c_0, val_main_call2_v12, val_main_call2_v13, val_main_v22, val_main_v23, val_main_v24, val_main_v25, val_main_c_7, val_main_call3_v0, val_main_call3_v1, val_main_call3_v2, val_main_call3_v3, val_main_call3_v4, val_main_call3_v5, val_main_call3_v6, val_main_call3_v7, val_main_call3_v8, val_main_call3_c, val_main_call3_v9, val_main_call3_v10, val_main_call3_v11, val_main_call3_c_0, val_main_call3_v12, val_main_call3_v13, val_main_v26, val_main_c_8, val_main_call4_v0, val_main_call4_v1, val_main_call4_v2, val_main_call4_v3, val_main_call4_v4, val_main_call4_v5, val_main_call4_v6, val_main_call4_v7, val_main_call4_v8, val_main_call4_c, val_main_call4_v9, val_main_call4_v10, val_main_call4_v11, val_main_call4_c_0, val_main_call4_v12, val_main_call4_v13, val_main_v27, val_main_c_9, val_main_v28, val_main_v29, val_main_v30, val_main_v31, val_main_v32, val_main_v33, val_main_v0, val_main_v1, val_main_v2, val_main_v3]
  simp only [id_eq]
  pointwise
  have ek := chunk_nat k.val (by omega)
  have eq := chunk_nat q.val (by omega)
  refine Eq.trans (congrArg₂ IntOp.andi (congrArg₂ (IntOp.cmpi .sge) ek eq)
    (congrArg₂ (IntOp.cmpi .sle) ek (congrArg (fun w => IntOp.addi w 8#32) eq))) ?_
  exact band_word ⟨k.val / 64, by omega⟩ ⟨q.val / 64, by omega⟩

/-- The distance of a key and a query depends on their difference alone. -/
theorem dist_word (k : Fin 768) (q : Fin 256) : IntOp.subi (IntOp.addi (512#32) (BitVec.ofNat 32 q.val)) (BitVec.ofNat 32 k.val) =
    IntOp.addi (BitVec.ofNat 32 (767 + q.val - k.val)) 4294967041#32 := by
  unfold IntOp.subi IntOp.addi
  have hk := k.isLt
  have hq := q.isLt
  generalize k.val = a at hk ⊢
  generalize q.val = b at hq ⊢
  apply BitVec.eq_of_toNat_eq
  rw [BitVec.toNat_sub, BitVec.toNat_add, BitVec.toNat_add, BitVec.toNat_ofNat, BitVec.toNat_ofNat, BitVec.toNat_ofNat, BitVec.toNat_ofNat, BitVec.toNat_ofNat]
  omega

/-- The reference's clipped distance, counted from the table's start, as a word. -/
theorem clip_word : ∀ n : Fin 1023, IntOp.addi (IntOp.minsi 256#32 (IntOp.maxsi 4294967040#32 (IntOp.addi (BitVec.ofNat 32 n.val) 4294967041#32))) 256#32 =
    BitVec.ofNat 32 (min 512 (n.val + 1)) := by
  decide +kernel

/-- The same of a natural number. -/
theorem clip_nat (n : ℕ) (hn : n < 1023) : IntOp.addi (IntOp.minsi 256#32 (IntOp.maxsi 4294967040#32 (IntOp.addi (BitVec.ofNat 32 n) 4294967041#32))) 256#32 =
    BitVec.ofNat 32 (min 512 (n + 1)) :=
  clip_word ⟨n, hn⟩

/-- No entry is negative, so none is counted from the table's end. -/
theorem wrap_word : ∀ n : Fin 513, Scalar.select (IntOp.cmpi .slt (BitVec.ofNat 32 n.val) 0#32) (IntOp.addi (BitVec.ofNat 32 n.val) 513#32) (BitVec.ofNat 32 n.val) =
    BitVec.ofNat 32 n.val := by
  decide +kernel

/-- The reference's entry of a key and a query. -/
theorem word_at (k : Fin 768) (q : Fin 256) : val_main_v17 (F := Ideal) (ix3 k q 0) = BitVec.ofNat 32 (entry k q).val := by
  pointwise [val_main_v0, val_main_v1, val_main_v2, val_main_v3, val_main_c, val_main_v4, val_main_v5, val_main_v6, val_main_v7, val_main_v8, val_main_c_0, val_main_c_1, val_main_call0_v0, val_main_call0_v1, val_main_call0_v2, val_main_call0_v3, val_main_call0_v4, val_main_v9, val_main_c_2, val_main_v10, val_main_v11, val_main_c_3, val_main_v12, val_main_v13, val_main_c_4, val_main_v14, val_main_v15, val_main_v16, val_main_v17]
  simp only [id_eq]
  pointwise
  simp only [dist_word]
  rw [clip_nat (767 + q.val - k.val) (by omega)]
  refine (wrap_word ⟨min 512 (767 + q.val - k.val + 1), by omega⟩).trans (congrArg (BitVec.ofNat 32) ?_)
  show min 512 (767 + q.val - k.val + 1) = min 512 (768 + q.val - k.val)
  omega

/-- The lookup: a head's bias at the entry its words hold. -/
theorem gather_at (x : FVec Ideal S16x513 .f32) (w : IVec S768x256x1 32) (h : Fin 16) (k : Fin 768) (q : Fin 256) (e : Fin 513)
    (he : w (ix3 k q 0) = BitVec.ofNat 32 e.val) :
    Host.gather gather_S16x513_S768x256x1_S16x768x256_0_1_n_n_1_2_161 x w (ix3 h k q) = x (ix2 h e) := by
  unfold Host.gather
  refine congrArg x (funext fun a => Fin.ext ?_)
  match a with
  | ⟨0, _⟩ =>
    show GatherDims.start _ (ix3 h k q) w 0 + GatherDims.batchCoord _ (ix3 h k q) 0 + GatherDims.offCoord _ (ix3 h k q) 0 = h.val
    rw [GatherDims.batchCoord_eq_zero _ _ _ List.not_mem_nil]
    unfold GatherDims.start
    rw [dif_neg (show (0 : Fin 2) ∉ gather_S16x513_S768x256x1_S16x768x256_0_1_n_n_1_2_161.startIndexMap from fun h => absurd (List.mem_singleton.1 h) (by decide))]
    rw [Nat.zero_add]
    rfl
  | ⟨1, _⟩ =>
    show GatherDims.start _ (ix3 h k q) w 1 + GatherDims.batchCoord _ (ix3 h k q) 1 + GatherDims.offCoord _ (ix3 h k q) 1 = e.val
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (1 : Fin 2) ∈ gather_S16x513_S768x256x1_S16x768x256_0_1_n_n_1_2_161.startIndexMap from List.mem_singleton.mpr rfl)]
    have hsi : gather_S16x513_S768x256x1_S16x768x256_0_1_n_n_1_2_161.siIdx (ix3 h k q)
        ⟨List.idxOf (1 : Fin 2) gather_S16x513_S768x256x1_S16x768x256_0_1_n_n_1_2_161.startIndexMap,
          List.idxOf_lt_length_iff.2 (List.mem_singleton.mpr rfl)⟩ = ix3 k q 0 := by
      funext b
      refine Fin.ext ?_
      match b with
      | ⟨0, _⟩ => rfl
      | ⟨1, _⟩ => rfl
      | ⟨2, _⟩ => rfl
    rw [hsi, he]
    have ht : (BitVec.ofNat 32 e.val).toInt.toNat = e.val := by
      rw [BitVec.toInt_ofNat', Int.bmod_def]
      omega
    rw [ht]
    show min e.val (513 - 1) + 0 + 0 = e.val
    omega

/-- The reference's table. -/
theorem out_at (x : FVec Ideal S16x513 .f32) (h : Fin 16) (k : Fin 768) (q : Fin 256) :
    val_main_v35 (F := Ideal) x (ix3 h k q) = table (fun e => x (ix2 h e)) k q := by
  pointwise [val_main_v35, val_main_call5_v1, val_main_call5_v2, val_main_call5_v0, val_main_cst_10, val_main_v34, val_main_v20, val_main_v19, val_main_cst, val_main_v18]
  rw [mask_at, gather_at x _ h k q (entry k q) (word_at k q), table]
  by_cases hb : inBand k q
  · rw [if_pos hb, if_pos hb]
    rfl
  · rw [if_neg hb, if_neg hb]
    rfl

end Cert.Reference5Ideal.Bias
-- ==== Proof.RetentionMath.lean ====
module

public import Idealize.ShloMosaic.Lib.Pointwise
public import Idealize.ShloMosaic.Lib.IdealHost
public import Mathlib.Analysis.SpecialFunctions.Exp
public import Mathlib.Analysis.SpecialFunctions.Pow.Real

@[expose] public section

noncomputable section

open Idealize.ShloMosaic

namespace Cert.Retention

/-- The logarithm of a head's decay. -/
def lg (h : Fin 4) : ℝ := Real.log (1 - Real.rpow 2 (-5 - (h : ℝ)))

/-- What is left, after `x` steps, of what a head has seen. -/
def dec (h : Fin 4) (x : ℝ) : ℝ := Real.exp (lg h * x)

/-- Decays over two stretches multiply. -/
theorem dec_add (h : Fin 4) (x y : ℝ) : dec h (x + y) = dec h x * dec h y := by
  unfold dec; rw [mul_add, Real.exp_add]

/-- A small number's word, read as an integer, is the number. -/
theorem word_coe (n : ℕ) (hn : n < 1024) : ((BitVec.ofNat 32 n).toInt : ℝ) = (n : ℝ) := by
  have e : (BitVec.ofNat 32 n).toInt = (n : ℤ) := by
    rw [BitVec.toInt_eq_toNat_of_lt (by rw [BitVec.toNat_ofNat]; omega), BitVec.toNat_ofNat]; omega
  rw [e, Int.cast_natCast]

/-- The logarithm of a head's decay, as both programs compute it. -/
theorem lg_eq (h : Fin 4) : Ideal.log (1 - Ideal.pow (Ideal.ofBits .f32 1073741824#32)
    (Ideal.ofBits .f32 3231711232#32 - (((BitVec.ofNat 32 (h : ℕ)).toInt : ℝ) : EReal))) = (lg h : EReal) := by
  rw [show Ideal.ofBits .f32 1073741824#32 = ((2 : ℝ) : EReal) by simp [Ideal.ofBits, Ideal.ieee, -EReal.coe_mul]; norm_num,
    show Ideal.ofBits .f32 3231711232#32 = ((-5 : ℝ) : EReal) by simp [Ideal.ofBits, Ideal.ieee, -EReal.coe_mul, -EReal.coe_neg]; norm_num,
    word_coe (h : ℕ) (by omega),
    ← EReal.coe_sub, Ideal.pow_coe_coe, ← EReal.coe_one, ← EReal.coe_sub, Ideal.log_coe, if_neg, lg]
  have : Real.rpow 2 (-5 - (h : ℝ)) < 1 := Real.rpow_lt_one_of_one_lt_of_neg (by norm_num) (by
    have : (0 : ℝ) ≤ (h : ℕ) := Nat.cast_nonneg _
    linarith)
  linarith

/-- A head's decay over `x` steps, as both programs compute it. -/
theorem dec_eq (h : Fin 4) (x : ℝ) (y : EReal) (e : y = (x : EReal)) : Ideal.exp (Ideal.log (1 - Ideal.pow (Ideal.ofBits .f32 1073741824#32)
    (Ideal.ofBits .f32 3231711232#32 - FloatOps.sitofp (F := Ideal) .f32 (BitVec.ofNat 32 (h : ℕ)))) * y) = (dec h x : EReal) := by
  rw [e]
  exact (congrArg (fun z => Ideal.exp (z * (x : EReal))) (lg_eq h)).trans (by rw [← EReal.coe_mul, Ideal.exp_coe, dec])

/-- A row's number, converted from its word. -/
theorem row_coe (n : ℕ) (hn : n < 1024) : FloatOps.sitofp (F := Ideal) .f32 (BitVec.ofNat 32 n) = ((n : ℝ) : EReal) :=
  congrArg (fun x : ℝ => (x : EReal)) (word_coe n hn)

/-- The distance of two rows, from their words. -/
theorem dist_coe (a b : ℕ) (ha : a < 1024) (hb : b < 1024) : FloatOps.absf (F := Ideal) (φ := .f32)
    (FloatOps.sitofp (F := Ideal) .f32 (BitVec.ofNat 32 a) - FloatOps.sitofp (F := Ideal) .f32 (BitVec.ofNat 32 b) : EReal) = ((|(a : ℝ) - (b : ℝ)| : ℝ) : EReal) := by
  rw [row_coe a ha, row_coe b hb, ← EReal.coe_sub]
  change max ((((a : ℝ) - (b : ℝ) : ℝ)) : EReal) (-((((a : ℝ) - (b : ℝ) : ℝ)) : EReal)) = _
  rw [← EReal.coe_neg]
  rcases le_total ((a : ℝ) - (b : ℝ)) 0 with h | h
  · rw [abs_of_nonpos h, max_eq_right (EReal.coe_le_coe_iff.mpr (by linarith))]
  · rw [abs_of_nonneg h, max_eq_left (EReal.coe_le_coe_iff.mpr (by linarith))]

/-- One entry of a head's state after `N` rows: every row's key times its value, decayed by the rows since. -/
def st (h : Fin 4) (k v : ℕ → ℝ) (N : ℕ) : ℝ := ∑ s ∈ Finset.range N, dec h ((N : ℝ) - 1 - s) * (k s * v s)

/-- No rows leave nothing. -/
theorem st_zero (h : Fin 4) (k v : ℕ → ℝ) : st h k v 0 = 0 := by simp [st]

/-- A block of `L` further rows decays the state and adds its own keys times values. -/
theorem st_add (h : Fin 4) (k v : ℕ → ℝ) (N L : ℕ) :
    st h k v (N + L) = st h k v N * dec h L + ∑ s : Fin L, k (N + s) * dec h ((L : ℝ) - 1 - (s : ℕ)) * v (N + s) := by
  unfold st
  rw [Finset.sum_range_add, Finset.sum_mul, Finset.sum_range (fun x => dec h (((N + L : ℕ) : ℝ) - 1 - ((N + x : ℕ) : ℝ)) * (k (N + x) * v (N + x)))]
  refine congrArg₂ (· + ·) (Finset.sum_congr rfl fun s _ => ?_) (Finset.sum_congr rfl fun s _ => ?_)
  · rw [show ((N + L : ℕ) : ℝ) - 1 - s = ((N : ℝ) - 1 - s) + L by push_cast; ring, dec_add]; ring
  · rw [show ((N + L : ℕ) : ℝ) - 1 - ((N + s : ℕ) : ℝ) = (L : ℝ) - 1 - (s : ℕ) by push_cast; ring]; ring

/-- One head's result at row `t`: every row up to the end of its chunk of 64, weighed by its score and its distance. -/
def mix (h : Fin 4) (q : Fin 256 → ℝ) (k : Fin 256 → ℕ → ℝ) (v : ℕ → ℝ) (t : ℕ) : ℝ :=
  ∑ s ∈ Finset.range (64 * (t / 64 + 1)), (∑ d : Fin 256, q d * k d s) * dec h |(t : ℝ) - s| * v s

/-- The rows a row sees are those of its own block's chunks up to its own, and all rows before its block, which the state carries. -/
theorem mix_block (h : Fin 4) (q : Fin 256 → ℝ) (k : Fin 256 → ℕ → ℝ) (v : ℕ → ℝ) (N L : ℕ) (hN : 64 ∣ N) (hL : 64 ∣ L) (r : Fin L) :
    mix h q k v (N + r) = (∑ s : Fin L, (∑ d : Fin 256, q d * k d (N + s))
        * (if (s : ℕ) / 64 ≤ (r : ℕ) / 64 then dec h |((r : ℕ) : ℝ) - (s : ℕ)| else 0) * v (N + s))
      + ∑ d : Fin 256, q d * dec h (((r : ℕ) : ℝ) + 1) * st h (k d) v N := by
  obtain ⟨n, rfl⟩ := hN
  obtain ⟨l, rfl⟩ := hL
  have hr := r.isLt
  unfold mix
  rw [show 64 * ((64 * n + (r : ℕ)) / 64 + 1) = 64 * n + 64 * ((r : ℕ) / 64 + 1) by omega, Finset.sum_range_add, add_comm]
  refine congrArg₂ (· + ·) ?_ ?_
  · rw [← Finset.sum_range (fun s => (∑ d : Fin 256, q d * k d (64 * n + s))
        * (if s / 64 ≤ (r : ℕ) / 64 then dec h |((r : ℕ) : ℝ) - s| else 0) * v (64 * n + s))]
    refine (Finset.sum_subset_zero_on_sdiff (Finset.range_mono (by omega)) (fun s hs => ?_) (fun s hs => ?_))
    · simp only [Finset.mem_sdiff, Finset.mem_range] at hs
      rw [if_neg (by omega), mul_zero, zero_mul]
    · simp only [Finset.mem_range] at hs
      rw [if_pos (by omega)]
      push_cast
      rw [add_sub_add_left_eq_sub]
  · unfold st
    simp only [Finset.mul_sum, Finset.sum_mul]
    rw [Finset.sum_comm]
    refine Finset.sum_congr rfl fun d _ => Finset.sum_congr rfl fun s hs => ?_
    simp only [Finset.mem_range] at hs
    have hs' : (s : ℝ) < ((64 * n : ℕ) : ℝ) := by exact_mod_cast hs
    have hr' : (0 : ℝ) ≤ ((r : ℕ) : ℝ) := Nat.cast_nonneg _
    rw [abs_of_nonneg (by push_cast at hs' ⊢; linarith),
      show ((64 * n + (r : ℕ) : ℕ) : ℝ) - s = (((r : ℕ) : ℝ) + 1) + (((64 * n : ℕ) : ℝ) - 1 - s) by push_cast; ring, dec_add]
    ring

/-- A sum of reals is the real sum. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The state's step over the extended reals, from real entries. -/
theorem st_add_coe (h : Fin 4) (k v : ℕ → ℝ) (N L : ℕ) :
    (st h k v (N + L) : EReal) = (st h k v N : EReal) * (dec h L : EReal)
      + ∑ s : Fin L, (k (N + s) : EReal) * (dec h ((L : ℝ) - 1 - (s : ℕ)) : EReal) * (v (N + s) : EReal) := by
  rw [st_add, EReal.coe_add, EReal.coe_mul, coe_sum]
  simp only [EReal.coe_mul]

/-- The row's result over the extended reals, from real entries. -/
theorem mix_block_coe (h : Fin 4) (q : Fin 256 → ℝ) (k : Fin 256 → ℕ → ℝ) (v : ℕ → ℝ) (N L : ℕ) (hN : 64 ∣ N) (hL : 64 ∣ L) (r : Fin L) :
    (mix h q k v (N + r) : EReal) = (∑ s : Fin L, (∑ d : Fin 256, (q d : EReal) * (k d (N + s) : EReal))
        * ((if (s : ℕ) / 64 ≤ (r : ℕ) / 64 then dec h |((r : ℕ) : ℝ) - (s : ℕ)| else 0 : ℝ) : EReal) * (v (N + s) : EReal))
      + ∑ d : Fin 256, (q d : EReal) * (dec h (((r : ℕ) : ℝ) + 1) : EReal) * (st h (k d) v N : EReal) := by
  rw [mix_block h q k v N L hN hL r, EReal.coe_add, coe_sum, coe_sum]
  simp only [EReal.coe_mul, coe_sum]

end Cert.Retention
-- ==== Proof.RetentionSpec.lean ====
module

public import proofs.«01_k».proof.Proof.RetentionMath

@[expose] public section

noncomputable section

open Idealize.ShloMosaic

namespace Cert.Retention

/-- A row over its root mean square, times the gain and the gate. -/
def gated (o gn g : Fin 512 → EReal) (e : Fin 512) : EReal :=
  g e * (o e * Ideal.rsqrt (Ideal.div (∑ l : Fin 512, o l * o l) (Ideal.ofBits .f32 1140850688#32) + Ideal.ofBits .f32 897988541#32) * gn e)

/-- One key column of a sequence, by time: the keys lie in blocks of 256 rows, turned. -/
def seqK (K : (⟨4, ![8, 16, 1024, 256]⟩ : Shape).Idx → EReal) (b : Fin 8) (c : Fin 1024) (t : ℕ) : ℝ :=
  (K (ix4 b ⟨t / 256 % 16, by omega⟩ c ⟨t % 256, by omega⟩)).toReal

/-- One value column of a sequence, by time. -/
def seqV (V : (⟨2, ![32768, 2048]⟩ : Shape).Idx → EReal) (b : Fin 8) (c : Fin 2048) (t : ℕ) : ℝ :=
  (V (ix2 ⟨(b * 4096 + t) % 32768, by omega⟩ c)).toReal

/-- One entry of one head's retention at time `t` of sequence `b`. -/
def att (Q : (⟨2, ![32768, 1024]⟩ : Shape).Idx → EReal) (K : (⟨4, ![8, 16, 1024, 256]⟩ : Shape).Idx → EReal)
    (V : (⟨2, ![32768, 2048]⟩ : Shape).Idx → EReal) (b : Fin 8) (t : Fin 4096) (h : Fin 4) (e : Fin 512) : ℝ :=
  mix h (fun d => (Q (ix2 ⟨b * 4096 + t, by omega⟩ ⟨h * 256 + d, by omega⟩)).toReal) (fun d => seqK K b ⟨h * 256 + d, by omega⟩)
    (seqV V b ⟨h * 512 + e, by omega⟩) t

/-- One result of the retention: the residual plus the gated, normed heads through the output matrix. -/
def out (Q : (⟨2, ![32768, 1024]⟩ : Shape).Idx → EReal) (K : (⟨4, ![8, 16, 1024, 256]⟩ : Shape).Idx → EReal)
    (V G : (⟨2, ![32768, 2048]⟩ : Shape).Idx → EReal) (X : (⟨2, ![32768, 1024]⟩ : Shape).Idx → EReal)
    (gn : (⟨1, ![2048]⟩ : Shape).Idx → EReal) (W : (⟨2, ![2048, 1024]⟩ : Shape).Idx → EReal) (R : Fin 32768) (j : Fin 1024) : EReal :=
  X (ix2 R j) + ∑ c : Fin 2048, gated (fun e => (att Q K V ⟨R / 4096, by omega⟩ ⟨R % 4096, by omega⟩ ⟨c / 512, by omega⟩ e : EReal))
    (fun e => gn (ix1 ⟨(c / 512) * 512 + e, by omega⟩)) (fun e => G (ix2 R ⟨(c / 512) * 512 + e, by omega⟩)) ⟨c % 512, by omega⟩ * W (ix2 c j)

/-- Every entry of an array is a real number. -/
def Finite {s : Shape} (a : s.Idx → EReal) : Prop := ∀ i, a i = ((a i).toReal : EReal)

/-- A key of a finite array is its column's entry at its time. -/
theorem seqK_coe {K : (⟨4, ![8, 16, 1024, 256]⟩ : Shape).Idx → EReal} (hK : Finite K) (b : Fin 8) (p : Fin 16) (c : Fin 1024) (r : Fin 256)
    (t : ℕ) (ht : t = p * 256 + r) : K (ix4 b p c r) = (seqK K b c t : EReal) := by
  subst ht
  unfold seqK
  rw [show (⟨((p : ℕ) * 256 + r) / 256 % 16, by omega⟩ : Fin 16) = p from Fin.ext (by simp only []; omega),
    show (⟨((p : ℕ) * 256 + r) % 256, by omega⟩ : Fin 256) = r from Fin.ext (by simp only []; omega)]
  exact hK _

/-- A value of a finite array is its column's entry at its time. -/
theorem seqV_coe {V : (⟨2, ![32768, 2048]⟩ : Shape).Idx → EReal} (hV : Finite V) (b : Fin 8) (R : Fin 32768) (c : Fin 2048)
    (t : ℕ) (ht : (R : ℕ) = b * 4096 + t) : V (ix2 R c) = (seqV V b c t : EReal) := by
  unfold seqV
  rw [show (⟨((b : ℕ) * 4096 + t) % 32768, by omega⟩ : Fin 32768) = R from Fin.ext (by simp only []; omega)]
  exact hV _

end Cert.Retention
-- ==== Proof.RetentionFinite.lean ====
module

public import proofs.«01_k».proof.Defs
public import proofs.«01_k».proof.Proof.RetentionSpec
public import Idealize.ShloMosaic.Lib.ReduceAll

@[expose] public section

noncomputable section

open Idealize.ShloMosaic

namespace Cert.Retention

/-- The side conditions of the precondition's operations. -/
theorem pre_facts : Cert.Pre_finite_qkv.Facts where
  bitsLt_bf16_f32 := by decide
  bcast_S_S32768x1024 := by decide
  reducesTo_S32768x1024_S_d0_1 := by decide
  h_S_ := by decide
  bcast_S_S8x16x1024x256 := by decide
  reducesTo_S8x16x1024x256_S_d0_1_2_3 := by decide
  bcast_S_S32768x2048 := by decide
  reducesTo_S32768x2048_S_d0_1 := by decide

/-- A number whose magnitude is below the infinity is real. -/
theorem real_of_abs_lt (x : EReal) (h : Ideal.cmp .olt (max x (-x)) (Ideal.ofBits .f32 0x7F800000#32) = 1#1) : x = (x.toReal : EReal) := by
  rw [show Ideal.ofBits .f32 0x7F800000#32 = (⊤ : EReal) by simp [Ideal.ofBits, Ideal.ieee]] at h
  have hlt : max x (-x) < ⊤ := by
    by_contra hn
    simp [Ideal.cmp, hn] at h
  refine (EReal.coe_toReal ?_ ?_).symm
  · rintro rfl; simp at hlt
  · rintro rfl; simp at hlt

/-- A scalar has one index. -/
instance : Subsingleton (Cert.Pre_finite_qkv.S_).Idx := ⟨fun a b => funext fun i => i.elim0⟩

/-- Under the precondition the queries, keys and values are real. -/
theorem finite_of_pre [Cert.Pre_finite_qkv.Facts] (q k v g x gn w)
    (h : Cert.Pre_finite_qkv.fn (F := Ideal) q k v g x gn w = fun _ => 1#1) : Finite q ∧ Finite k ∧ Finite v := by
  have h0 := congrFun h (Shape.Idx.first Cert.Pre_finite_qkv.Facts.h_S_)
  obtain ⟨h1, hv⟩ := IntOp.andi_eq_one.1 h0
  obtain ⟨hq, hk⟩ := IntOp.andi_eq_one.1 h1
  exact ⟨fun i => real_of_abs_lt _ (Host.reduce_andi_all _ _ _ _ _ hq i), fun i => real_of_abs_lt _ (Host.reduce_andi_all _ _ _ _ _ hk i),
    fun i => real_of_abs_lt _ (Host.reduce_andi_all _ _ _ _ _ hv i)⟩

end Cert.Retention
-- ==== Proof.BiasFinite.lean ====
module

public import proofs.«01_k».proof.Defs
public import proofs.«01_k».proof.Proof.RetentionFinite
public import Idealize.ShloMosaic.Lib.ReduceAll

@[expose] public section

noncomputable section

open Idealize.ShloMosaic

namespace Cert.Bias

/-- The side conditions of the precondition's operations. -/
theorem pre_facts : Cert.Pre_finite_bias.Facts where
  bcast_S_S16x513 := by decide
  reducesTo_S16x513_S_d0_1 := by decide
  h_S_ := by decide

/-- Under the precondition the biases are real. -/
theorem finite_of_pre [Cert.Pre_finite_bias.Facts] (b : FVec Ideal Cert.Pre_finite_bias.S16x513 .f32)
    (h : Cert.Pre_finite_bias.fn (F := Ideal) b = fun _ => 1#1) (i : Cert.Pre_finite_bias.S16x513.Idx) : ∃ r : ℝ, b i = (r : EReal) :=
  ⟨_, Cert.Retention.real_of_abs_lt _ (Host.reduce_andi_all _ _ _ _ _ (congrFun h (Shape.Idx.first Cert.Pre_finite_bias.Facts.h_S_)) i)⟩

end Cert.Bias
-- ==== Proof.BiasClaim.lean ====
module

public import proofs.«01_k».proof.Defs
public import proofs.«01_k».proof.Proof.BiasArray
public import proofs.«01_k».proof.Proof.BiasRef
public import proofs.«01_k».proof.Proof.BiasFinite
public import proofs.«01_k».proof.Proof.Gen.Reference5Ideal.Run
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Bias

/-- From finite biases the table's kernel and its reference end with the same array. -/
theorem algebraic [hpre : Cert.Pre_finite_bias.Facts] : Cert.algebraic_Kernel5Ideal_Reference5Ideal_pre_finite_bias := by
  pair_intro
  · run_from Cert.Kernel5Ideal.Value.run_blocks m g
  · run_from Cert.Reference5Ideal.Value.run m' g'
    have hx := finite_of_pre _ (hpre c)
    rw [Cert.Reference5Ideal.Read.val_main_v35_eq, hagree c, Cert.Kernel5Ideal.Bias.final m c (fun h e => hx (ix2 h e))]
    funext i
    exact (congrArg _ (eq_ix3 i)).trans (Cert.Reference5Ideal.Bias.out_at _ (i 0) (i 1) (i 2))

/-- The reference of the table terminates from any memory and keeps its argument. -/
theorem reference_frame : Cert.quiescent_Reference5Ideal := fun m g _ =>
  (θ_run _ _ _).mono (fun r h => ⟨fun c => (h c).2, sem_eq_zero_of_no_sems rfl r.2⟩) (Cert.Reference5Ideal.Value.run m g)

/-- The same under the precondition, which it does not need. -/
theorem reference_frame_pre [hPre_finite_bias : Cert.Pre_finite_bias.Facts] : Cert.quiescent_Reference5Ideal_pre_finite_bias := fun m g _ => reference_frame m g trivial

end Cert.Bias
-- ==== Proof.FfnBlock.lean ====
module

public import proofs.«01_k».proof.Defs
public import proofs.«01_k».proof.Proof.Gen.Kernel2Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel2Ideal.Ffn

open Cert.Kernel2Ideal Cert.Kernel2Ideal.Gen

/-- One row's hidden value: the row over its root mean square, times the gain. -/
def hid (x g : Fin 1024 → EReal) (k : Fin 1024) : EReal :=
  x k * Ideal.rsqrt (Ideal.div (∑ l : Fin 1024, x l * x l) (Ideal.ofBits .f32 1149239296#32) + Ideal.ofBits .f32 897988541#32) * g k

/-- One gated activation of a row: the gate's product times its logistic times the up product. -/
def act (h : Fin 1024 → EReal) (w : Fin 1024 → Fin 5632 → EReal) (e : Fin 2816) : EReal :=
  (∑ k : Fin 1024, h k * w k ⟨e, by omega⟩) * Ideal.logistic (∑ k : Fin 1024, h k * w k ⟨e, by omega⟩)
    * ∑ k : Fin 1024, h k * w k ⟨2816 + e, by omega⟩

/-- One result of a row: the residual plus the activations through the down matrix. -/
def res (x g : Fin 1024 → EReal) (w : Fin 1024 → Fin 5632 → EReal) (d : Fin 2816 → Fin 1024 → EReal) (j : Fin 1024) : EReal :=
  x j + ∑ e : Fin 2816, act (hid x g) w e * d e j

/-- A result depends on its row, gain and matrices entry by entry. -/
theorem res_congr {x x' g g' : Fin 1024 → EReal} {w w' : Fin 1024 → Fin 5632 → EReal} {d d' : Fin 2816 → Fin 1024 → EReal} {j j' : Fin 1024}
    (hx : ∀ l, x l = x' l) (hg : ∀ l, g l = g' l) (hw : ∀ k e, w k e = w' k e) (hd : ∀ e j, d e j = d' e j) (hj : j = j') :
    res x g w d j = res x' g' w' d' j' := by
  obtain rfl : x = x' := funext hx
  obtain rfl : g = g' := funext hg
  obtain rfl : w = w' := funext fun k => funext (hw k)
  obtain rfl : d = d' := funext fun k => funext (hd k)
  rw [hj]

/-- The normed block at a row and a column is that row's hidden value. -/
theorem pay4_at (x : FVec Ideal S1024x1024 .f32) (g : FVec Ideal S1x1024 .f32) (r k : Fin 1024) :
    k0_pay4 (F := Ideal) x g (ix2 r k) = hid (fun l => x (ix2 r l)) (fun l => g (ix2 0 l)) k := by
  unfold hid
  pointwise [k0_pay4]

/-- An activation does not depend on how its row is named. -/
theorem act_named (H : FVec Ideal S1024x1024 .bf16) (W : FVec Ideal S1024x5632 .bf16) (r r' : Fin 1024) (e : Fin 2816)
    (hr : (r : ℕ) = r') :
    (∑ k : Fin 1024, H (ix2 r' k) * W (ix2 k ⟨e, by omega⟩)) * Ideal.logistic (∑ k : Fin 1024, H (ix2 r' k) * W (ix2 k ⟨e, by omega⟩))
        * ∑ k : Fin 1024, H (ix2 r' k) * W (ix2 k ⟨2816 + e, by omega⟩)
      = act (fun k => H (ix2 r k)) (fun k e => W (ix2 k e)) e := by
  obtain rfl : r = r' := Fin.ext hr
  rfl

variable (m : (ℓ : Loc nD τ sig) → Buf (Elt Ideal) ℓ)

/-- What a grid point leaves in its output block, from its four input blocks. -/
theorem point (c : Dev nD) (t : Fin cfg0.N) (X : FVec Ideal S1024x1024 .f32) (G : FVec Ideal S1x1024 .f32)
    (W : FVec Ideal S1024x5632 .bf16) (D : FVec Ideal S2816x1024 .bf16)
    (hX : iblk m c 0 t = X) (hG : iblk m c 1 t = G) (hW : iblk m c 2 t = W) (hD : iblk m c 3 t = D) (r j : Fin 1024) :
    outsAt0 m c t (ix2 r j) = res (fun l => X (ix2 r l)) (fun l => G (ix2 0 l)) (fun k e => W (ix2 k e)) (fun e j => D (ix2 e j)) j := by
  unfold Gen.outsAt0
  rw [hX, hG, hW, hD]
  frame_out
  unfold res
  rw [show hid (fun l => X (ix2 r l)) (fun l => G (ix2 0 l)) = fun k => k0_pay4 (F := Ideal) X G (ix2 r k) from
    funext fun k => (pay4_at X G r k).symm]
  pointwise [k0_pay3]
  refine congrArg₂ (· + ·) rfl (Finset.sum_congr rfl fun e _ => congrArg₂ (· * ·) ?_ rfl)
  rw [View.readCov_eq_canon']
  canon_tiles z q
  all_goals
    replace q0 : (r : ℕ) = z 0 := by simpa using q0
    simp at q1
    refine Eq.trans ?_ (act_named (k0_pay4 (F := Ideal) X G) W r (z 0) e ?_)
    · open_payloads; pointwise; blk_point []
    · exact q0

/-- Row block `t` of the rows, and the whole of each weight, is what point `t` is given. -/
theorem idx : ∀ t : Fin cfg0.N, win0_0.index t = ![t.val, 0] ∧ win0_1.index t = ![0, 0] ∧ win0_2.index t = ![0, 0]
    ∧ win0_3.index t = ![0, 0] ∧ win0_4.index t = ![t.val, 0] :=
  (by decide +kernel : ∀ t : Fin grid0.N, _)

/-- What the result array holds after the run: every row's result, from the arguments. -/
theorem final (c : Dev nD) : (dats m 0 c).arrAt 4 cfg0.N = fun i : S32768x1024.Idx =>
    res (fun l => m ((c : Thread nD τ).loc main_arg0) (ix2 (i 0) l)) (fun l => m ((c : Thread nD τ).loc main_arg1) (ix1 l))
      (fun k e => m ((c : Thread nD τ).loc main_arg2) (ix2 k e)) (fun e j => m ((c : Thread nD τ).loc main_arg3) (ix2 e j)) (i 1) := by
  refine (dats m 0 c).arrAt_eq_of_covers 4 _ (by decide +kernel) fun t _ y => ?_
  blk_simp
  rw [after0_4]
  refine Eq.trans (congrArg (outsAt0 m c t) (eq_ix2 y)) ((point m c t _ _ _ _ rfl rfl rfl rfl (y 0) (y 1)).trans ?_)
  have hx : ∀ (r : Fin 1024) (R : Fin 32768), (R : ℕ) = t.val * 1024 + r → ∀ l : Fin 1024,
      (show FVec Ideal S1024x1024 .f32 from iblk m c 0 t) (ix2 r l) = m ((c : Thread nD τ).loc main_arg0) (ix2 R l) := fun r R hR l => by
    unfold iblk
    entry_read
    blk_point [idx t]
  have hg : ∀ l : Fin 1024, (show FVec Ideal S1x1024 .f32 from iblk m c 1 t) (ix2 0 l)
      = m ((c : Thread nD τ).loc main_arg1) (ix1 l) := fun l => by
    unfold iblk
    entry_read
    have e : ((cfg0.win 1).blk t).view.emb (ix2 (0 : Fin 1) l) = ix2 (0 : Fin 1) l := by blk_ext [idx t]
    change shapeCast S1x1024 (m ((c : Thread nD τ).loc main_arg1)) shapeCasts_S1024_S1x1024 (((cfg0.win 1).blk t).view.emb (ix2 (0 : Fin 1) l)) = _
    rw [e]
    pointwise
  have hw : ∀ k e, (show FVec Ideal S1024x5632 .bf16 from iblk m c 2 t) (ix2 k e)
      = m ((c : Thread nD τ).loc main_arg2) (ix2 k e) := fun k e => by
    unfold iblk
    entry_read
    blk_point [idx t]
  have hd : ∀ k e, (show FVec Ideal S2816x1024 .bf16 from iblk m c 3 t) (ix2 k e)
      = m ((c : Thread nD τ).loc main_arg3) (ix2 k e) := fun k e => by
    unfold iblk
    entry_read
    blk_point [idx t]
  exact res_congr (hx (y 0) _ (by blk_simp [idx t])) hg hw hd (Fin.ext (by blk_simp [idx t]))

end Cert.Kernel2Ideal.Ffn
-- ==== Proof.FfnRef.lean ====
module

public import proofs.«01_k».proof.Defs
public import proofs.«01_k».proof.Proof.FfnBlock
public import proofs.«01_k».proof.Proof.Gen.Reference2Ideal.Read

@[expose] public section

set_option maxRecDepth 16384

noncomputable section

open Idealize.ShloMosaic Idealize.ShloMosaic.TcCoe Idealize.SL.Sem

namespace Cert.Reference2Ideal.Ffn

open Cert.Reference2Ideal Cert.Reference2Ideal.Read
open Cert.Kernel2Ideal.Ffn (hid act res)

variable (x : FVec Ideal S32768x1024 .f32) (g : FVec Ideal S1024 .f32) (w : FVec Ideal S1024x5632 .f32) (d : FVec Ideal S2816x1024 .f32)

/-- The reference's normed rows are the rows' hidden values. -/
theorem hid_at (i : Fin 32768) (k : Fin 1024) :
    val_main_v12 (F := Ideal) x g (ix2 i k) = hid (fun l => x (ix2 i l)) (fun l => g (ix1 l)) k := by
  unfold hid
  pointwise [val_main_v12, val_main_v11, val_main_v10, val_main_v9, val_main_v8, val_main_v7, val_main_v6, val_main_v5, val_main_v4, val_main_v3, val_main_v2, val_main_v1, val_main_v0, val_main_cst, val_main_cst_0, val_main_cst_1]

/-- The reference's gated activations are the rows' activations. -/
theorem act_at (i : Fin 32768) (e : Fin 2816) :
    val_main_v17 (F := Ideal) x g w (ix2 i e) = act (hid (fun l => x (ix2 i l)) (fun l => g (ix1 l))) (fun k e => w (ix2 k e)) e := by
  rw [show hid (fun l => x (ix2 i l)) (fun l => g (ix1 l)) = fun k => val_main_v12 (F := Ideal) x g (ix2 i k) from
    funext fun k => (hid_at x g i k).symm]
  unfold act
  pointwise [val_main_v17, val_main_v16, val_main_v15, val_main_v14, val_main_v13, val_main_call0_v0, val_main_call0_v1, val_main_call0_v2, val_main_call0_v3, val_main_call0_v4, val_main_call0_v5, val_main_call0_cst, val_main_call0_cst_0]
  rfl

/-- The reference's result at a row and a column. -/
theorem res_at (i : Fin 32768) (j : Fin 1024) :
    val_main_v19 (F := Ideal) x g w d (ix2 i j)
      = res (fun l => x (ix2 i l)) (fun l => g (ix1 l)) (fun k e => w (ix2 k e)) (fun e j => d (ix2 e j)) j := by
  unfold res
  rw [show act (hid (fun l => x (ix2 i l)) (fun l => g (ix1 l))) (fun k e => w (ix2 k e))
      = fun e => val_main_v17 (F := Ideal) x g w (ix2 i e) from funext fun e => (act_at x g w i e).symm]
  pointwise [val_main_v19, val_main_v18]

end Cert.Reference2Ideal.Ffn
-- ==== Proof.FfnClaim.lean ====
module

public import proofs.«01_k».proof.Defs
public import proofs.«01_k».proof.Proof.FfnRef
public import proofs.«01_k».proof.Proof.Gen.Kernel2Ideal.Value
public import proofs.«01_k».proof.Proof.Gen.Reference2Ideal.Run
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Ffn

/-- The feed-forward kernel and its reference end with the same array, whatever the arguments. -/
theorem algebraic : Cert.algebraic_Kernel2Ideal_Reference2Ideal := by
  pair_intro
  · run_from Cert.Kernel2Ideal.Value.run_blocks m g
  · run_from Cert.Reference2Ideal.Value.run m' g'
    rw [Cert.Reference2Ideal.Read.val_main_v19_eq, Cert.Kernel2Ideal.Ffn.final m c]
    funext i
    exact (congrArg _ (eq_ix2 i)).trans (Cert.Reference2Ideal.Ffn.res_at _ _ _ _ (i 0) (i 1))

/-- The reference of the feed-forward call terminates from any memory and keeps its arguments. -/
theorem reference_frame : Cert.quiescent_Reference2Ideal := by
  intro m g _
  exact (θ_run _ _ _).mono (fun r h => ⟨fun c => (h c).2, sem_eq_zero_of_no_sems rfl r.2⟩) (Cert.Reference2Ideal.Value.run m g)

end Cert.Ffn
-- ==== Proof.InprojSpec.lean ====
module

public import proofs.«01_k».proof.Proof.FfnBlock

@[expose] public section

noncomputable section

open Idealize.ShloMosaic

namespace Cert.Inproj

open Cert.Kernel2Ideal.Ffn (hid)

/-- One entry of a row's projection: the normed row against a column. -/
def proj (x g : Fin 1024 → EReal) (w : Fin 1024 → EReal) : EReal := ∑ k : Fin 1024, hid x g k * w k

/-- Rotary positions on a row of four heads of 256 columns: each head's first half of columns and second half turn together. -/
def rot (p : Fin 1024 → EReal) (co si : Fin 128 → EReal) (j : Fin 1024) : EReal :=
  if h : j.val % 256 < 128 then p j * co ⟨j.val % 128, by omega⟩ - p ⟨j.val + 128, by omega⟩ * si ⟨j.val % 128, by omega⟩
  else p ⟨j.val - 128, by omega⟩ * si ⟨j.val % 128, by omega⟩ + p j * co ⟨j.val % 128, by omega⟩

/-- A turned column depends on its row and angles entry by entry. -/
theorem rot_congr {p p' : Fin 1024 → EReal} {co co' si si' : Fin 128 → EReal} {j j' : Fin 1024} (hp : ∀ j, p j = p' j) (hc : ∀ c, co c = co' c)
    (hs : ∀ c, si c = si' c) (hj : j = j') : rot p co si j = rot p' co' si' j' := by
  rw [funext hp, funext hc, funext hs, hj]

/-- The angle of a position at one of a half head's columns: the position times the column's frequency. -/
def angle (s : Fin 4096) (c : Fin 128) : EReal :=
  FloatOps.sitofp (F := Ideal) FTy.f32 (BitVec.ofNat 32 (s : ℕ)) * Ideal.pow (Ideal.ofBits .f32 1176256512#32)
    (Ideal.div (-FloatOps.sitofp (F := Ideal) FTy.f32 (BitVec.ofNat 32 (c : ℕ))) (Ideal.ofBits .f32 1124073472#32))

/-- A row's column of the wide projection. -/
def col (x g : Fin 1024 → EReal) (w : Fin 1024 → Fin 6144 → EReal) (b : ℕ) {n : ℕ} (hb : b + n ≤ 6144) (j : Fin n) : EReal :=
  proj x g (fun k => w k ⟨b + j, by omega⟩)

/-- A row's queries: the first 1024 columns, turned by the position's angles. -/
def query (x g : Fin 1024 → EReal) (w : Fin 1024 → Fin 6144 → EReal) (s : Fin 4096) (j : Fin 1024) : EReal :=
  rot (col x g w 0 (by decide)) (fun c => Ideal.cos (angle s c)) (fun c => Ideal.sin (angle s c)) j

/-- A row's keys: the next 1024 columns, turned by the position's angles and scaled. -/
def key (x g : Fin 1024 → EReal) (w : Fin 1024 → Fin 6144 → EReal) (s : Fin 4096) (j : Fin 1024) : EReal :=
  rot (col x g w 1024 (by decide)) (fun c => Ideal.cos (angle s c)) (fun c => Ideal.sin (angle s c)) j * Ideal.ofBits .f32 1031798784#32

/-- A row's values: the next 2048 columns. -/
def value (x g : Fin 1024 → EReal) (w : Fin 1024 → Fin 6144 → EReal) (j : Fin 2048) : EReal := col x g w 2048 (by decide) j

/-- A row's gates: the last 2048 columns, each times its logistic. -/
def gate (x g : Fin 1024 → EReal) (w : Fin 1024 → Fin 6144 → EReal) (j : Fin 2048) : EReal :=
  col x g w 4096 (by decide) j * Ideal.logistic (col x g w 4096 (by decide) j)

/-- A column of a head's first half. -/
theorem rot_lo (p : Fin 1024 → EReal) (co si : Fin 128 → EReal) (j : Fin 1024) (b : ℕ) (c : Fin 128) (hb : b % 256 = 0) (hb' : b + 256 ≤ 1024)
    (hj : j.val = b + c) : rot p co si j = p ⟨b + c, by omega⟩ * co c - p ⟨b + 128 + c, by omega⟩ * si c := by
  unfold rot
  rw [dif_pos (by omega)]
  have e : (⟨j.val % 128, by omega⟩ : Fin 128) = c := Fin.ext (by simp only []; omega)
  have e' : (⟨j.val + 128, by omega⟩ : Fin 1024) = ⟨b + 128 + c, by omega⟩ := Fin.ext (by simp only []; omega)
  have e'' : j = ⟨b + c, by omega⟩ := Fin.ext hj
  rw [e, e', ← e'']

/-- A column of a head's second half. -/
theorem rot_hi (p : Fin 1024 → EReal) (co si : Fin 128 → EReal) (j : Fin 1024) (b : ℕ) (c : Fin 128) (hb : b % 256 = 0) (hb' : b + 256 ≤ 1024)
    (hj : j.val = b + 128 + c) : rot p co si j = p ⟨b + c, by omega⟩ * si c + p ⟨b + 128 + c, by omega⟩ * co c := by
  unfold rot
  rw [dif_neg (by omega)]
  have e : (⟨j.val % 128, by omega⟩ : Fin 128) = c := Fin.ext (by simp only []; omega)
  have e' : (⟨j.val - 128, by omega⟩ : Fin 1024) = ⟨b + c, by omega⟩ := Fin.ext (by simp only []; omega)
  have e'' : j = ⟨b + 128 + c, by omega⟩ := Fin.ext hj
  rw [e, e', ← e'']

end Cert.Inproj
-- ==== Proof.InprojBlock.lean ====
module

public import proofs.«01_k».proof.Defs
public import proofs.«01_k».proof.Proof.InprojSpec
public import proofs.«01_k».proof.Proof.Gen.Kernel3Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel3Ideal.Inproj

open Cert.Kernel3Ideal Cert.Kernel3Ideal.Gen Cert.Inproj
open Cert.Kernel2Ideal.Ffn (hid)

/-- The normed block at a row and a column is that row's hidden value. -/
theorem pay4_at (x : FVec Ideal S512x1024 .f32) (g : FVec Ideal S1x1024 .f32) (r : Fin 512) (k : Fin 1024) :
    k0_pay4 (F := Ideal) x g (ix2 r k) = hid (fun l => x (ix2 r l)) (fun l => g (ix2 0 l)) k := by
  unfold hid
  pointwise [k0_pay4]

variable (x0 : FVec Ideal S512x1024 .f32) (x1 : FVec Ideal S1x1024 .f32) (x2 x3 : FVec Ideal S1024x1024 .bf16) (x4 x5 : FVec Ideal S1024x2048 .bf16)
  (x6 x7 : FVec Ideal S512x128 .f32) (x8 x9 : FVec Ideal S128x512 .f32)

/-- A block's projection entry through the block of normed rows. -/
theorem proj_pay (r : Fin 512) (w : Fin 1024 → EReal) :
    proj (fun l => x0 (ix2 r l)) (fun l => x1 (ix2 0 l)) w = ∑ k : Fin 1024, k0_pay4 (F := Ideal) x0 x1 (ix2 r k) * w k :=
  Finset.sum_congr rfl fun k _ => congrArg (· * w k) (pay4_at x0 x1 r k).symm

/-- The same with the factors exchanged. -/
theorem proj_pay' (r : Fin 512) (w : Fin 1024 → EReal) :
    proj (fun l => x0 (ix2 r l)) (fun l => x1 (ix2 0 l)) w = ∑ k : Fin 1024, w k * k0_pay4 (F := Ideal) x0 x1 (ix2 r k) :=
  (proj_pay x0 x1 r w).trans (Finset.sum_congr rfl fun k _ => mul_comm _ _)

/-- The block of values: the rows against the value columns. -/
theorem v_at (r : Fin 512) (j : Fin 2048) :
    out0_12 (F := Ideal) x0 x1 x2 x3 x4 x5 x6 x7 x8 x9 (ix2 r j) = proj (fun l => x0 (ix2 r l)) (fun l => x1 (ix2 0 l)) (fun k => x4 (ix2 k j)) := by
  rw [proj_pay]
  unfold_out out0_12
  canon_tiles z q
  all_goals
    open_payloads
    pointwise
    blk_point []
    all_goals first | exact q0.symm | exact q1.symm

/-- The block of gates: the rows against the gate columns, times its logistic. -/
theorem gate_at (r : Fin 512) (j : Fin 2048) :
    out0_13 (F := Ideal) x0 x1 x2 x3 x4 x5 x6 x7 x8 x9 (ix2 r j) = proj (fun l => x0 (ix2 r l)) (fun l => x1 (ix2 0 l)) (fun k => x5 (ix2 k j))
      * Ideal.logistic (proj (fun l => x0 (ix2 r l)) (fun l => x1 (ix2 0 l)) (fun k => x5 (ix2 k j))) := by
  rw [proj_pay]
  unfold_out out0_13
  canon_tiles z q
  all_goals
    open_payloads
    pointwise
    blk_point []
    all_goals first | exact q0.symm | exact q1.symm

/-- The block of queries: the rows against the query columns, turned by the block's angles. -/
theorem q_at (r : Fin 512) (j : Fin 1024) :
    out0_10 (F := Ideal) x0 x1 x2 x3 x4 x5 x6 x7 x8 x9 (ix2 r j)
      = rot (fun j => proj (fun l => x0 (ix2 r l)) (fun l => x1 (ix2 0 l)) (fun k => x2 (ix2 k j))) (fun c => x6 (ix2 r c)) (fun c => x7 (ix2 r c)) j := by
  simp only [proj_pay]
  unfold_out out0_10
  canon_tiles z q
  · refine Eq.trans ?_ (rot_hi _ _ _ j 768 (z 1) (by decide) (by decide) q1).symm
    open_payloads; pointwise; blk_point []
    all_goals exact q0.symm
  · refine Eq.trans ?_ (rot_lo _ _ _ j 768 (z 1) (by decide) (by decide) q1).symm
    open_payloads; pointwise; blk_point []
    all_goals exact q0.symm
  · refine Eq.trans ?_ (rot_hi _ _ _ j 512 (z 1) (by decide) (by decide) q1).symm
    open_payloads; pointwise; blk_point []
    all_goals exact q0.symm
  · refine Eq.trans ?_ (rot_lo _ _ _ j 512 (z 1) (by decide) (by decide) q1).symm
    open_payloads; pointwise; blk_point []
    all_goals exact q0.symm
  · refine Eq.trans ?_ (rot_hi _ _ _ j 256 (z 1) (by decide) (by decide) q1).symm
    open_payloads; pointwise; blk_point []
    all_goals exact q0.symm
  · refine Eq.trans ?_ (rot_lo _ _ _ j 256 (z 1) (by decide) (by decide) q1).symm
    open_payloads; pointwise; blk_point []
    all_goals exact q0.symm
  · refine Eq.trans ?_ (rot_hi _ _ _ j 0 (z 1) (by decide) (by decide) q1).symm
    open_payloads; pointwise; blk_point []
    all_goals exact q0.symm
  · refine Eq.trans ?_ (rot_lo _ _ _ j 0 (z 1) (by decide) (by decide) (q1.trans (Nat.zero_add _).symm)).symm
    open_payloads; pointwise; blk_point []
    all_goals exact q0.symm

/-- The block of keys, positions along the last axis: the rows against the key columns, turned by the block's angles and scaled. -/
theorem k_at (n : Fin 2) (j : Fin 1024) (r : Fin 256) (s : Fin 512) (hs : s.val = 256 * n + r) :
    out0_11 (F := Ideal) x0 x1 x2 x3 x4 x5 x6 x7 x8 x9 (ix4 0 n j r)
      = rot (fun j => proj (fun l => x0 (ix2 s l)) (fun l => x1 (ix2 0 l)) (fun k => x3 (ix2 j k))) (fun c => x8 (ix2 c s)) (fun c => x9 (ix2 c s)) j
        * Ideal.ofBits .f32 1031798784#32 := by
  simp only [proj_pay']
  unfold_out out0_11
  canon_tiles z q
  all_goals
    replace q1 : (n : ℕ) = _ := q1
    replace q3 : (r : ℕ) = _ := q3
  · refine Eq.trans ?_ (congrArg (· * Ideal.ofBits .f32 1031798784#32) (rot_hi _ _ _ j 768 (z 2) (by decide) (by decide) q2).symm)
    open_payloads; pointwise; blk_point []
    all_goals omega
  · refine Eq.trans ?_ (congrArg (· * Ideal.ofBits .f32 1031798784#32) (rot_hi _ _ _ j 768 (z 2) (by decide) (by decide) q2).symm)
    open_payloads; pointwise; blk_point []
    all_goals omega
  · refine Eq.trans ?_ (congrArg (· * Ideal.ofBits .f32 1031798784#32) (rot_lo _ _ _ j 768 (z 2) (by decide) (by decide) q2).symm)
    open_payloads; pointwise; blk_point []
    all_goals omega
  · refine Eq.trans ?_ (congrArg (· * Ideal.ofBits .f32 1031798784#32) (rot_lo _ _ _ j 768 (z 2) (by decide) (by decide) q2).symm)
    open_payloads; pointwise; blk_point []
    all_goals omega
  · refine Eq.trans ?_ (congrArg (· * Ideal.ofBits .f32 1031798784#32) (rot_hi _ _ _ j 512 (z 2) (by decide) (by decide) q2).symm)
    open_payloads; pointwise; blk_point []
    all_goals omega
  · refine Eq.trans ?_ (congrArg (· * Ideal.ofBits .f32 1031798784#32) (rot_hi _ _ _ j 512 (z 2) (by decide) (by decide) q2).symm)
    open_payloads; pointwise; blk_point []
    all_goals omega
  · refine Eq.trans ?_ (congrArg (· * Ideal.ofBits .f32 1031798784#32) (rot_lo _ _ _ j 512 (z 2) (by decide) (by decide) q2).symm)
    open_payloads; pointwise; blk_point []
    all_goals omega
  · refine Eq.trans ?_ (congrArg (· * Ideal.ofBits .f32 1031798784#32) (rot_lo _ _ _ j 512 (z 2) (by decide) (by decide) q2).symm)
    open_payloads; pointwise; blk_point []
    all_goals omega
  · refine Eq.trans ?_ (congrArg (· * Ideal.ofBits .f32 1031798784#32) (rot_hi _ _ _ j 256 (z 2) (by decide) (by decide) q2).symm)
    open_payloads; pointwise; blk_point []
    all_goals omega
  · refine Eq.trans ?_ (congrArg (· * Ideal.ofBits .f32 1031798784#32) (rot_hi _ _ _ j 256 (z 2) (by decide) (by decide) q2).symm)
    open_payloads; pointwise; blk_point []
    all_goals omega
  · refine Eq.trans ?_ (congrArg (· * Ideal.ofBits .f32 1031798784#32) (rot_lo _ _ _ j 256 (z 2) (by decide) (by decide) q2).symm)
    open_payloads; pointwise; blk_point []
    all_goals omega
  · refine Eq.trans ?_ (congrArg (· * Ideal.ofBits .f32 1031798784#32) (rot_lo _ _ _ j 256 (z 2) (by decide) (by decide) q2).symm)
    open_payloads; pointwise; blk_point []
    all_goals omega
  · refine Eq.trans ?_ (congrArg (· * Ideal.ofBits .f32 1031798784#32) (rot_hi _ _ _ j 0 (z 2) (by decide) (by decide) q2).symm)
    open_payloads; pointwise; blk_point []
    all_goals omega
  · refine Eq.trans ?_ (congrArg (· * Ideal.ofBits .f32 1031798784#32) (rot_hi _ _ _ j 0 (z 2) (by decide) (by decide) q2).symm)
    open_payloads; pointwise; blk_point []
    all_goals omega
  · refine Eq.trans ?_ (congrArg (· * Ideal.ofBits .f32 1031798784#32) (rot_lo _ _ _ j 0 (z 2) (by decide) (by decide) (q2.trans (Nat.zero_add _).symm)).symm)
    open_payloads; pointwise; blk_point []
    all_goals omega
  · refine Eq.trans ?_ (congrArg (· * Ideal.ofBits .f32 1031798784#32) (rot_lo _ _ _ j 0 (z 2) (by decide) (by decide) (q2.trans (Nat.zero_add _).symm)).symm)
    open_payloads; pointwise; blk_point []
    all_goals omega

end Cert.Kernel3Ideal.Inproj
-- ==== Proof.InprojArray.lean ====
module

public import proofs.«01_k».proof.Defs
public import proofs.«01_k».proof.Proof.InprojBlock
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Kernel3Ideal.Inproj

open Cert.Kernel3Ideal Cert.Kernel3Ideal.Gen Cert.Inproj

variable (m : (ℓ : Loc nD τ sig) → Buf (Elt Ideal) ℓ)

/-- What each point is given and writes: its rows, the whole weights, its positions' angles, its rows of each result. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val % 8, 0]
    ∧ win0_7.index t = ![t.val % 8, 0] ∧ win0_8.index t = ![0, t.val % 8] ∧ win0_9.index t = ![0, t.val % 8] ∧ win0_10.index t = ![t.val, 0]
    ∧ win0_11.index t = ![t.val / 8, t.val % 8, 0, 0] ∧ win0_12.index t = ![t.val, 0] ∧ win0_13.index t = ![t.val, 0] :=
  (by decide +kernel : ∀ t : Fin grid0.N, _)

variable (c : Dev nD) (t : Fin cfg0.N)

/-- The table of cosines. -/
theorem tab_cos (s : Fin 4096) (j : Fin 128) : (show FVec Ideal S4096x128 .f32 from V m c main_v21) (ix2 s j) = Ideal.cos (angle s j) := by
  unfold Gen.V
  simp only [Gen.hostOps0, List.flatten_cons, List.flatten_nil, List.cons_append, List.nil_append, List.append_nil]
  after_reads_simp
  pointwise
  rfl

/-- The table of sines. -/
theorem tab_sin (s : Fin 4096) (j : Fin 128) : (show FVec Ideal S4096x128 .f32 from V m c main_v22) (ix2 s j) = Ideal.sin (angle s j) := by
  unfold Gen.V
  simp only [Gen.hostOps0, List.flatten_cons, List.flatten_nil, List.cons_append, List.nil_append, List.append_nil]
  after_reads_simp
  pointwise
  rfl

/-- The turned table of cosines. -/
theorem tab_cosT (s : Fin 4096) (j : Fin 128) : (show FVec Ideal S128x4096 .f32 from V m c main_v24) (ix2 j s) = Ideal.cos (angle s j) := by
  unfold Gen.V
  simp only [Gen.hostOps0, List.flatten_cons, List.flatten_nil, List.cons_append, List.nil_append, List.append_nil]
  after_reads_simp
  pointwise
  rfl

/-- The turned table of sines. -/
theorem tab_sinT (s : Fin 4096) (j : Fin 128) : (show FVec Ideal S128x4096 .f32 from V m c main_v25) (ix2 j s) = Ideal.sin (angle s j) := by
  unfold Gen.V
  simp only [Gen.hostOps0, List.flatten_cons, List.flatten_nil, List.cons_append, List.nil_append, List.append_nil]
  after_reads_simp
  pointwise
  rfl

/-- The query columns. -/
theorem tab_wq (k j : Fin 1024) : (show FVec Ideal S1024x1024 .bf16 from V m c main_v1) (ix2 k j) = m ((c : Thread nD τ).loc main_arg2) (ix2 k ⟨0 + j, by omega⟩) := by
  unfold Gen.V
  simp only [Gen.hostOps0, List.flatten_cons, List.flatten_nil, List.cons_append, List.nil_append, List.append_nil]
  after_reads_simp
  pointwise

/-- The key columns, turned. -/
theorem tab_wk (k j : Fin 1024) : (show FVec Ideal S1024x1024 .bf16 from V m c main_v4) (ix2 j k) = m ((c : Thread nD τ).loc main_arg2) (ix2 k ⟨1024 + j, by omega⟩) := by
  unfold Gen.V
  simp only [Gen.hostOps0, List.flatten_cons, List.flatten_nil, List.cons_append, List.nil_append, List.append_nil]
  after_reads_simp
  pointwise

/-- The value columns. -/
theorem tab_wv (k : Fin 1024) (j : Fin 2048) : (show FVec Ideal S1024x2048 .bf16 from V m c main_v6) (ix2 k j) = m ((c : Thread nD τ).loc main_arg2) (ix2 k ⟨2048 + j, by omega⟩) := by
  unfold Gen.V
  simp only [Gen.hostOps0, List.flatten_cons, List.flatten_nil, List.cons_append, List.nil_append, List.append_nil]
  after_reads_simp
  pointwise

/-- The gate columns. -/
theorem tab_wg (k : Fin 1024) (j : Fin 2048) : (show FVec Ideal S1024x2048 .bf16 from V m c main_v8) (ix2 k j) = m ((c : Thread nD τ).loc main_arg2) (ix2 k ⟨4096 + j, by omega⟩) := by
  unfold Gen.V
  simp only [Gen.hostOps0, List.flatten_cons, List.flatten_nil, List.cons_append, List.nil_append, List.append_nil]
  after_reads_simp
  pointwise

/-- The gains. -/
theorem tab_g (j : Fin 1024) : (show FVec Ideal S1x1024 .f32 from V m c main_v23) (ix2 0 j) = m ((c : Thread nD τ).loc main_arg1) (ix1 j) := by
  unfold Gen.V
  simp only [Gen.hostOps0, List.flatten_cons, List.flatten_nil, List.cons_append, List.nil_append, List.append_nil]
  after_reads_simp
  pointwise

/-- A point's rows. -/
theorem in_x (r : Fin 512) (j : Fin 1024) (R : Fin 32768) (hR : (R : ℕ) = t.val * 512 + r) :
    (show FVec Ideal S512x1024 .f32 from iblk m c 0 t) (ix2 r j) = m ((c : Thread nD τ).loc main_arg0) (ix2 R j) := by
  unfold iblk
  unfold Gen.V
  simp only [Gen.hostOps0, List.flatten_cons, List.flatten_nil, List.cons_append, List.nil_append, List.append_nil]
  after_reads_simp
  blk_point [idx t]

/-- Every point's gains. -/
theorem in_g (j : Fin 1024) : (show FVec Ideal S1x1024 .f32 from iblk m c 1 t) (ix2 (0 : Fin 1) j) = m ((c : Thread nD τ).loc main_arg1) (ix1 j) := by
  unfold iblk
  have e : ((cfg0.win 1).blk t).view.emb (ix2 (0 : Fin 1) j) = ix2 (0 : Fin 1) j := by blk_ext [idx t]
  change (show FVec Ideal S1x1024 .f32 from V m c main_v23) (((cfg0.win 1).blk t).view.emb (ix2 (0 : Fin 1) j)) = _
  rw [e]
  exact tab_g m c j

/-- Every point's query columns. -/
theorem in_wq (k j : Fin 1024) : (show FVec Ideal S1024x1024 .bf16 from iblk m c 2 t) (ix2 k j) = m ((c : Thread nD τ).loc main_arg2) (ix2 k ⟨0 + j, by omega⟩) := by
  unfold iblk
  have e : ((cfg0.win 2).blk t).view.emb (ix2 k j) = ix2 k j := by blk_ext [idx t]
  change (show FVec Ideal S1024x1024 .bf16 from V m c main_v1) (((cfg0.win 2).blk t).view.emb (ix2 k j)) = _
  rw [e]
  exact tab_wq m c k j

/-- Every point's key columns. -/
theorem in_wk (k j : Fin 1024) : (show FVec Ideal S1024x1024 .bf16 from iblk m c 3 t) (ix2 j k) = m ((c : Thread nD τ).loc main_arg2) (ix2 k ⟨1024 + j, by omega⟩) := by
  unfold iblk
  have e : ((cfg0.win 3).blk t).view.emb (ix2 j k) = ix2 j k := by blk_ext [idx t]
  change (show FVec Ideal S1024x1024 .bf16 from V m c main_v4) (((cfg0.win 3).blk t).view.emb (ix2 j k)) = _
  rw [e]
  exact tab_wk m c k j

/-- Every point's value columns. -/
theorem in_wv (k : Fin 1024) (j : Fin 2048) : (show FVec Ideal S1024x2048 .bf16 from iblk m c 4 t) (ix2 k j) = m ((c : Thread nD τ).loc main_arg2) (ix2 k ⟨2048 + j, by omega⟩) := by
  unfold iblk
  have e : ((cfg0.win 4).blk t).view.emb (ix2 k j) = ix2 k j := by blk_ext [idx t]
  change (show FVec Ideal S1024x2048 .bf16 from V m c main_v6) (((cfg0.win 4).blk t).view.emb (ix2 k j)) = _
  rw [e]
  exact tab_wv m c k j

/-- Every point's gate columns. -/
theorem in_wg (k : Fin 1024) (j : Fin 2048) : (show FVec Ideal S1024x2048 .bf16 from iblk m c 5 t) (ix2 k j) = m ((c : Thread nD τ).loc main_arg2) (ix2 k ⟨4096 + j, by omega⟩) := by
  unfold iblk
  have e : ((cfg0.win 5).blk t).view.emb (ix2 k j) = ix2 k j := by blk_ext [idx t]
  change (show FVec Ideal S1024x2048 .bf16 from V m c main_v8) (((cfg0.win 5).blk t).view.emb (ix2 k j)) = _
  rw [e]
  exact tab_wg m c k j

/-- A point's cosines. -/
theorem in_cos (r : Fin 512) (j : Fin 128) (s : Fin 4096) (hs : (s : ℕ) = (t.val % 8) * 512 + r) : (show FVec Ideal S512x128 .f32 from iblk m c 6 t) (ix2 r j) = Ideal.cos (angle s j) := by
  unfold iblk
  have e : ((cfg0.win 6).blk t).view.emb (ix2 r j) = ix2 s j := by blk_ext [idx t]
  change (show FVec Ideal S4096x128 .f32 from V m c main_v21) (((cfg0.win 6).blk t).view.emb (ix2 r j)) = _
  rw [e]
  exact tab_cos m c s j

/-- A point's sines. -/
theorem in_sin (r : Fin 512) (j : Fin 128) (s : Fin 4096) (hs : (s : ℕ) = (t.val % 8) * 512 + r) : (show FVec Ideal S512x128 .f32 from iblk m c 7 t) (ix2 r j) = Ideal.sin (angle s j) := by
  unfold iblk
  have e : ((cfg0.win 7).blk t).view.emb (ix2 r j) = ix2 s j := by blk_ext [idx t]
  change (show FVec Ideal S4096x128 .f32 from V m c main_v22) (((cfg0.win 7).blk t).view.emb (ix2 r j)) = _
  rw [e]
  exact tab_sin m c s j

/-- A point's turned cosines. -/
theorem in_cosT (r : Fin 512) (j : Fin 128) (s : Fin 4096) (hs : (s : ℕ) = (t.val % 8) * 512 + r) : (show FVec Ideal S128x512 .f32 from iblk m c 8 t) (ix2 j r) = Ideal.cos (angle s j) := by
  unfold iblk
  have e : ((cfg0.win 8).blk t).view.emb (ix2 j r) = ix2 j s := by blk_ext [idx t]
  change (show FVec Ideal S128x4096 .f32 from V m c main_v24) (((cfg0.win 8).blk t).view.emb (ix2 j r)) = _
  rw [e]
  exact tab_cosT m c s j

/-- A point's turned sines. -/
theorem in_sinT (r : Fin 512) (j : Fin 128) (s : Fin 4096) (hs : (s : ℕ) = (t.val % 8) * 512 + r) : (show FVec Ideal S128x512 .f32 from iblk m c 9 t) (ix2 j r) = Ideal.sin (angle s j) := by
  unfold iblk
  have e : ((cfg0.win 9).blk t).view.emb (ix2 j r) = ix2 j s := by blk_ext [idx t]
  change (show FVec Ideal S128x4096 .f32 from V m c main_v25) (((cfg0.win 9).blk t).view.emb (ix2 j r)) = _
  rw [e]
  exact tab_sinT m c s j

/-- A point's projection onto a column is the rows' projection onto the column of the wide matrix. -/
theorem col_of (W : Fin 1024 → EReal) (r : Fin 512) (R : Fin 32768) (hR : (R : ℕ) = t.val * 512 + r) (b n : ℕ) (hb : b + n ≤ 6144) (j : Fin n)
    (hW : ∀ k, W k = m ((c : Thread nD τ).loc main_arg2) (ix2 k ⟨b + j, by omega⟩)) :
    proj (fun l => (show FVec Ideal S512x1024 .f32 from iblk m c 0 t) (ix2 r l)) (fun l => (show FVec Ideal S1x1024 .f32 from iblk m c 1 t) (ix2 0 l)) W
      = col (fun l => m ((c : Thread nD τ).loc main_arg0) (ix2 R l)) (fun l => m ((c : Thread nD τ).loc main_arg1) (ix1 l))
          (fun k j => m ((c : Thread nD τ).loc main_arg2) (ix2 k j)) b hb j := by
  unfold col
  rw [funext hW, funext fun l => in_x m c t r l R hR, funext fun l => in_g m c t l]

/-- The queries from the arguments: row and column. -/
def queries (R : Fin 32768) (j : Fin 1024) : EReal :=
  query (fun l => m ((c : Thread nD τ).loc main_arg0) (ix2 R l)) (fun l => m ((c : Thread nD τ).loc main_arg1) (ix1 l))
      (fun k j => m ((c : Thread nD τ).loc main_arg2) (ix2 k j)) ⟨R.val % 4096, Nat.mod_lt _ (by decide)⟩ j

/-- A point's queries, from the arguments. -/
theorem q_of (r : Fin 512) (j : Fin 1024) (R : Fin 32768) (hR : (R : ℕ) = t.val * 512 + r) (J : Fin 1024) (hJ : (J : ℕ) = j) :
    out0_10 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r j)
      = queries m c R J := by
  obtain rfl : J = j := Fin.ext hJ
  have ht : t.val < 64 := t.isLt
  have hs : R.val % 4096 = (t.val % 8) * 512 + r := by omega
  refine (q_at _ _ _ _ _ _ _ _ _ _ r J).trans ?_
  exact rot_congr (fun j => col_of m c t _ r R hR 0 1024 _ j fun k => in_wq m c t k j) (fun j => in_cos m c t r j _ hs) (fun j => in_sin m c t r j _ hs) rfl

/-- A point's values, from the arguments. -/
theorem v_of (r : Fin 512) (j : Fin 2048) (R : Fin 32768) (hR : (R : ℕ) = t.val * 512 + r) (J : Fin 2048) (hJ : (J : ℕ) = j) :
    out0_12 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r j)
      = value (fun l => m ((c : Thread nD τ).loc main_arg0) (ix2 R l)) (fun l => m ((c : Thread nD τ).loc main_arg1) (ix1 l))
      (fun k j => m ((c : Thread nD τ).loc main_arg2) (ix2 k j)) J := by
  obtain rfl : J = j := Fin.ext hJ
  exact (v_at _ _ _ _ _ _ _ _ _ _ r J).trans (col_of m c t _ r R hR 2048 2048 (by decide) J fun k => in_wv m c t k J)

/-- A point's gates, from the arguments. -/
theorem gate_of (r : Fin 512) (j : Fin 2048) (R : Fin 32768) (hR : (R : ℕ) = t.val * 512 + r) (J : Fin 2048) (hJ : (J : ℕ) = j) :
    out0_13 (F := Ideal) (iblk m c 0 t) (iblk m c 1 t) (iblk m c 2 t) (iblk m c 3 t) (iblk m c 4 t) (iblk m c 5 t) (iblk m c 6 t) (iblk m c 7 t) (iblk m c 8 t) (iblk m c 9 t) (ix2 r j)
      = gate (fun l => m ((c : Thread nD τ).loc main_arg0) (ix2 R l)) (fun l => m ((c : Thread nD τ).loc main_arg1) (ix1 l))
      (fun k j => m ((c : Thread nD τ).loc main_arg2) (ix2 k j)) J := by
  obtain rfl : J = j := Fin.ext hJ
  exact (gate_at _ _ _ _ _ _ _ _ _ _ r J).trans (congrArg (fun v : EReal => v * Ideal.logistic v)
    (col_of m c t _ r R hR 4096 2048 (by decide) J fun k => in_wg m c t k J))

/-- The row of a sequence's block: sequence `b`, block `n`, row `r`. -/
abbrev row (b : Fin 8) (n : Fin 16) (r : Fin 256) : Fin 32768 := ⟨b * 4096 + n * 256 + r, by omega⟩

/-- The position of a block's row. -/
abbrev place (n : Fin 16) (r : Fin 256) : Fin 4096 := ⟨n * 256 + r, by omega⟩

/-- The keys from the arguments: sequence, block, column and row of the block. -/
def keys (b : Fin 8) (n : Fin 16) (j : Fin 1024) (r : Fin 256) : EReal :=
  key (fun l => m ((c : Thread nD τ).loc main_arg0) (ix2 (row b n r) l)) (fun l => m ((c : Thread nD τ).loc main_arg1) (ix1 l))
      (fun k j => m ((c : Thread nD τ).loc main_arg2) (ix2 k j)) (place n r) j

/-- A point's keys, from the arguments. -/
theorem k_of (a : Fin 1) (n : Fin 2) (j : Fin 1024) (r : Fin 256) (b : Fin 8) (hb : (b : ℕ) = t.val / 8) (N : Fin 16) (hN : (N : ℕ) = (t.val % 8) * 2 + n)
    (J : Fin 1024) (hJ : (J : ℕ) = j) (r' : Fin 256) (hr : (r' : ℕ) = r) :
    out0_11 (F := Ideal) (iblk m c 0 t) (iblk m c 1 t) (iblk m c 2 t) (iblk m c 3 t) (iblk m c 4 t) (iblk m c 5 t) (iblk m c 6 t) (iblk m c 7 t) (iblk m c 8 t) (iblk m c 9 t) (ix4 a n j r)
      = keys m c b N J r' := by
  obtain rfl : J = j := Fin.ext hJ
  obtain rfl : r' = r := Fin.ext hr
  obtain rfl : a = 0 := Subsingleton.elim _ _
  have ht : t.val < 64 := t.isLt
  refine (k_at _ _ _ _ _ _ _ _ _ _ n J r' ⟨256 * n + r', by omega⟩ rfl).trans ?_
  have hR : ((row b N r' : Fin 32768) : ℕ) = t.val * 512 + (⟨256 * n + r', by omega⟩ : Fin 512) := by simp only []; omega
  have hs : ((place N r' : Fin 4096) : ℕ) = (t.val % 8) * 512 + (⟨256 * n + r', by omega⟩ : Fin 512) := by simp only []; omega
  exact congrArg (· * Ideal.ofBits .f32 1031798784#32) (rot_congr
    (fun j => col_of m c t _ _ _ hR 1024 1024 _ j fun k => in_wk m c t k j) (fun j => in_cosT m c t _ j _ hs) (fun j => in_sinT m c t _ j _ hs) rfl)

/-- The queries after the run. -/
theorem final_q : (dats m 0 c).arrAt 10 cfg0.N = fun i : S32768x1024.Idx => queries m c (i 0) (i 1) := by
  refine (dats m 0 c).arrAt_eq_of_covers 10 _ (by decide +kernel) fun t _ y => ?_
  blk_simp
  rw [after0_10]
  exact Eq.trans (congrArg (out0_10 _ _ _ _ _ _ _ _ _ _) (eq_ix2 y)) (q_of m c t (y 0) (y 1) _ (by blk_simp [idx t]) _ (by blk_simp [idx t]))

/-- The keys after the run. -/
theorem final_k : (dats m 0 c).arrAt 11 cfg0.N = fun i : S8x16x1024x256.Idx => keys m c (i 0) (i 1) (i 2) (i 3) := by
  refine (dats m 0 c).arrAt_eq_of_covers 11 _ (by decide +kernel) fun t _ y => ?_
  blk_simp
  rw [after0_11]
  exact Eq.trans (congrArg (out0_11 _ _ _ _ _ _ _ _ _ _) (eq_ix4 y)) (k_of m c t (y 0) (y 1) (y 2) (y 3) _ (by blk_simp [idx t]) _ (by blk_simp [idx t])
    _ (by blk_simp [idx t]) _ (by blk_simp [idx t]))

/-- The values after the run. -/
theorem final_v : (dats m 0 c).arrAt 12 cfg0.N = fun i : S32768x2048.Idx =>
    value (fun l => m ((c : Thread nD τ).loc main_arg0) (ix2 (i 0) l)) (fun l => m ((c : Thread nD τ).loc main_arg1) (ix1 l))
      (fun k j => m ((c : Thread nD τ).loc main_arg2) (ix2 k j)) (i 1) := by
  refine (dats m 0 c).arrAt_eq_of_covers 12 _ (by decide +kernel) fun t _ y => ?_
  blk_simp
  rw [after0_12]
  exact Eq.trans (congrArg (out0_12 _ _ _ _ _ _ _ _ _ _) (eq_ix2 y)) (v_of m c t (y 0) (y 1) _ (by blk_simp [idx t]) _ (by blk_simp [idx t]))

/-- The gates after the run. -/
theorem final_gate : (dats m 0 c).arrAt 13 cfg0.N = fun i : S32768x2048.Idx =>
    gate (fun l => m ((c : Thread nD τ).loc main_arg0) (ix2 (i 0) l)) (fun l => m ((c : Thread nD τ).loc main_arg1) (ix1 l))
      (fun k j => m ((c : Thread nD τ).loc main_arg2) (ix2 k j)) (i 1) := by
  refine (dats m 0 c).arrAt_eq_of_covers 13 _ (by decide +kernel) fun t _ y => ?_
  blk_simp
  rw [after0_13]
  exact Eq.trans (congrArg (out0_13 _ _ _ _ _ _ _ _ _ _) (eq_ix2 y)) (gate_of m c t (y 0) (y 1) _ (by blk_simp [idx t]) _ (by blk_simp [idx t]))

end Cert.Kernel3Ideal.Inproj
-- ==== Proof.InprojRef.lean ====
module

public import proofs.«01_k».proof.Defs
public import proofs.«01_k».proof.Proof.InprojSpec
public import proofs.«01_k».proof.Proof.Gen.Reference3Ideal.Read
public import Idealize.ShloMosaic.Lib.Pointwise

@[expose] public section

set_option maxRecDepth 16384

noncomputable section

open Idealize.ShloMosaic Idealize.ShloMosaic.TcCoe Idealize.SL.Sem

namespace Cert.Reference3Ideal.Inproj

open Cert.Reference3Ideal Cert.Reference3Ideal.Read Cert.Inproj
open Cert.Kernel2Ideal.Ffn (hid)

variable (x : FVec Ideal S32768x1024 .f32) (g : FVec Ideal S1024 .f32) (w : FVec Ideal S1024x6144 .f32)

/-- The reference's normed rows are the rows' hidden values. -/
theorem hid_at (i : Fin 32768) (k : Fin 1024) :
    val_main_v12 (F := Ideal) x g (ix2 i k) = hid (fun l => x (ix2 i l)) (fun l => g (ix1 l)) k := by
  unfold hid
  pointwise [val_main_v12, val_main_v11, val_main_v10, val_main_v9, val_main_v8, val_main_v7, val_main_v6, val_main_v5, val_main_v4, val_main_v3, val_main_v2, val_main_v1, val_main_v0, val_main_cst, val_main_cst_0, val_main_cst_1]

/-- The reference's wide projection at a row and a column. -/
theorem proj_at (i : Fin 32768) (j : Fin 6144) :
    val_main_v13 (F := Ideal) x g w (ix2 i j) = proj (fun l => x (ix2 i l)) (fun l => g (ix1 l)) (fun k => w (ix2 k j)) := by
  unfold proj
  rw [show hid (fun l => x (ix2 i l)) (fun l => g (ix1 l)) = fun k => val_main_v12 (F := Ideal) x g (ix2 i k) from
    funext fun k => (hid_at x g i k).symm]
  pointwise [val_main_v13]

/-- The reference's angles, both times. -/
theorem angle_at (s : Fin 4096) (c : Fin 128) : val_main_v31 (F := Ideal) (ix2 s c) = angle s c ∧ val_main_v61 (F := Ideal) (ix2 s c) = angle s c := by
  constructor
  · pointwise [val_main_v31, val_main_v30, val_main_v29, val_main_v28, val_main_v27, val_main_v26, val_main_v25, val_main_v24, val_main_v23, val_main_v22, val_main_v21, val_main_v20, val_main_v18, val_main_cst_2, val_main_cst_3]
    rfl
  · pointwise [val_main_v61, val_main_v60, val_main_v59, val_main_v58, val_main_v57, val_main_v56, val_main_v55, val_main_v54, val_main_v53, val_main_v52, val_main_v51, val_main_v50, val_main_v18, val_main_cst_4, val_main_cst_5]
    rfl

/-- The reference's values. -/
theorem v_at (i : Fin 32768) (j : Fin 2048) :
    val_main_v86 (F := Ideal) x g w (ix2 i j) = value (fun l => x (ix2 i l)) (fun l => g (ix1 l)) (fun k j => w (ix2 k j)) j := by
  refine Eq.trans ?_ (proj_at x g w i ⟨2048 + j, by omega⟩)
  pointwise [val_main_v86, val_main_v16]

/-- The reference's gates. -/
theorem gate_at (i : Fin 32768) (j : Fin 2048) :
    val_main_v88 (F := Ideal) x g w (ix2 i j) = gate (fun l => x (ix2 i l)) (fun l => g (ix1 l)) (fun k j => w (ix2 k j)) j := by
  refine Eq.trans ?_ (congrArg (fun v : EReal => v * Ideal.logistic v) (proj_at x g w i ⟨4096 + j, by omega⟩))
  pointwise [val_main_v88, val_main_v87, val_main_v17, val_main_call0_v0, val_main_call0_v1, val_main_call0_v2, val_main_call0_v3, val_main_call0_v4, val_main_call0_v5, val_main_call0_cst, val_main_call0_cst_0]
  rfl

/-- The reference's turned queries at a column of a head's first half. -/
theorem q_lo (b : Fin 8) (s : Fin 4096) (h : Fin 4) (d : Fin 128) :
    val_main_v48 (F := Ideal) x g w (ix4 b s h ⟨d, by omega⟩)
      = proj (fun l => x (ix2 ⟨b * 4096 + s, by omega⟩ l)) (fun l => g (ix1 l)) (fun k => w (ix2 k ⟨0 + (h * 256 + d), by omega⟩)) * Ideal.cos (angle s d)
        - proj (fun l => x (ix2 ⟨b * 4096 + s, by omega⟩ l)) (fun l => g (ix1 l)) (fun k => w (ix2 k ⟨0 + (h * 256 + 128 + d), by omega⟩)) * Ideal.sin (angle s d) := by
  rw [← proj_at x g w, ← proj_at x g w, ← (angle_at s d).1]
  pointwise [val_main_v48, val_main_v42, val_main_v41, val_main_v40, val_main_v39, val_main_v38, val_main_v37, val_main_v36, val_main_v35, val_main_v34, val_main_v33, val_main_v32, val_main_v19, val_main_v14]
  all_goals simp only [Nat.add_assoc]

/-- The reference's turned queries at a column of a head's second half. -/
theorem q_hi (b : Fin 8) (s : Fin 4096) (h : Fin 4) (d : Fin 128) :
    val_main_v48 (F := Ideal) x g w (ix4 b s h ⟨128 + d, by omega⟩)
      = proj (fun l => x (ix2 ⟨b * 4096 + s, by omega⟩ l)) (fun l => g (ix1 l)) (fun k => w (ix2 k ⟨0 + (h * 256 + d), by omega⟩)) * Ideal.sin (angle s d)
        + proj (fun l => x (ix2 ⟨b * 4096 + s, by omega⟩ l)) (fun l => g (ix1 l)) (fun k => w (ix2 k ⟨0 + (h * 256 + 128 + d), by omega⟩)) * Ideal.cos (angle s d) := by
  rw [← proj_at x g w, ← proj_at x g w, ← (angle_at s d).1]
  pointwise [val_main_v48, val_main_v47, val_main_v46, val_main_v45, val_main_v44, val_main_v43, val_main_v37, val_main_v36, val_main_v35, val_main_v34, val_main_v33, val_main_v32, val_main_v19, val_main_v14]
  all_goals simp only [Nat.add_assoc]

/-- The reference's turned keys at a column of a head's first half. -/
theorem k_lo (b : Fin 8) (s : Fin 4096) (h : Fin 4) (d : Fin 128) :
    val_main_v78 (F := Ideal) x g w (ix4 b s h ⟨d, by omega⟩)
      = proj (fun l => x (ix2 ⟨b * 4096 + s, by omega⟩ l)) (fun l => g (ix1 l)) (fun k => w (ix2 k ⟨1024 + (h * 256 + d), by omega⟩)) * Ideal.cos (angle s d)
        - proj (fun l => x (ix2 ⟨b * 4096 + s, by omega⟩ l)) (fun l => g (ix1 l)) (fun k => w (ix2 k ⟨1024 + (h * 256 + 128 + d), by omega⟩)) * Ideal.sin (angle s d) := by
  rw [← proj_at x g w, ← proj_at x g w, ← (angle_at s d).2]
  pointwise [val_main_v78, val_main_v72, val_main_v71, val_main_v70, val_main_v69, val_main_v68, val_main_v67, val_main_v66, val_main_v65, val_main_v64, val_main_v63, val_main_v62, val_main_v49, val_main_v15]
  all_goals simp only [Nat.add_assoc]

/-- The reference's turned keys at a column of a head's second half. -/
theorem k_hi (b : Fin 8) (s : Fin 4096) (h : Fin 4) (d : Fin 128) :
    val_main_v78 (F := Ideal) x g w (ix4 b s h ⟨128 + d, by omega⟩)
      = proj (fun l => x (ix2 ⟨b * 4096 + s, by omega⟩ l)) (fun l => g (ix1 l)) (fun k => w (ix2 k ⟨1024 + (h * 256 + d), by omega⟩)) * Ideal.sin (angle s d)
        + proj (fun l => x (ix2 ⟨b * 4096 + s, by omega⟩ l)) (fun l => g (ix1 l)) (fun k => w (ix2 k ⟨1024 + (h * 256 + 128 + d), by omega⟩)) * Ideal.cos (angle s d) := by
  rw [← proj_at x g w, ← proj_at x g w, ← (angle_at s d).2]
  pointwise [val_main_v78, val_main_v77, val_main_v76, val_main_v75, val_main_v74, val_main_v73, val_main_v67, val_main_v66, val_main_v65, val_main_v64, val_main_v63, val_main_v62, val_main_v49, val_main_v15]
  all_goals simp only [Nat.add_assoc]

/-- The reference's turned queries. -/
theorem q_turned (b : Fin 8) (s : Fin 4096) (h : Fin 4) (e : Fin 256) :
    val_main_v48 (F := Ideal) x g w (ix4 b s h e)
      = rot (col (fun l => x (ix2 ⟨b * 4096 + s, by omega⟩ l)) (fun l => g (ix1 l)) (fun k j => w (ix2 k j)) 0 (by decide))
          (fun c => Ideal.cos (angle s c)) (fun c => Ideal.sin (angle s c)) ⟨h * 256 + e, by omega⟩ := by
  by_cases he : e.val < 128
  · rw [rot_lo _ _ _ _ (h * 256) ⟨e, he⟩ (by omega) (by omega) rfl]
    exact q_lo x g w b s h ⟨e, he⟩
  · obtain ⟨d, rfl⟩ : ∃ d : Fin 128, e = ⟨128 + d, Nat.add_lt_add_left d.isLt 128⟩ := ⟨⟨e - 128, by omega⟩, Fin.ext (by simp only []; omega)⟩
    rw [rot_hi _ _ _ _ (h * 256) d (by omega) (by omega) (by simp only []; omega)]
    exact q_hi x g w b s h d

/-- The reference's turned keys. -/
theorem k_turned (b : Fin 8) (s : Fin 4096) (h : Fin 4) (e : Fin 256) :
    val_main_v78 (F := Ideal) x g w (ix4 b s h e)
      = rot (col (fun l => x (ix2 ⟨b * 4096 + s, by omega⟩ l)) (fun l => g (ix1 l)) (fun k j => w (ix2 k j)) 1024 (by decide))
          (fun c => Ideal.cos (angle s c)) (fun c => Ideal.sin (angle s c)) ⟨h * 256 + e, by omega⟩ := by
  by_cases he : e.val < 128
  · rw [rot_lo _ _ _ _ (h * 256) ⟨e, he⟩ (by omega) (by omega) rfl]
    exact k_lo x g w b s h ⟨e, he⟩
  · obtain ⟨d, rfl⟩ : ∃ d : Fin 128, e = ⟨128 + d, Nat.add_lt_add_left d.isLt 128⟩ := ⟨⟨e - 128, by omega⟩, Fin.ext (by simp only []; omega)⟩
    rw [rot_hi _ _ _ _ (h * 256) d (by omega) (by omega) (by simp only []; omega)]
    exact k_hi x g w b s h d

/-- The reference's queries. -/
theorem q_at (b : Fin 8) (s : Fin 4096) (j : Fin 1024) :
    val_main_v84 (F := Ideal) x g w (ix2 ⟨b * 4096 + s, by omega⟩ j) = query (fun l => x (ix2 ⟨b * 4096 + s, by omega⟩ l)) (fun l => g (ix1 l)) (fun k j => w (ix2 k j)) s j := by
  refine Eq.trans ?_ ((q_turned x g w b s ⟨j / 256, by omega⟩ ⟨j % 256, by omega⟩).trans ?_)
  · pointwise [val_main_v84, val_main_v83]
  · exact rot_congr (fun _ => rfl) (fun _ => rfl) (fun _ => rfl) (Fin.ext (by simp only []; omega))

/-- A block's row is a position of the sequence. -/
theorem place_lt (n : Fin 16) (r : Fin 256) : n.val * 256 + r.val < 4096 := by omega

/-- The reference's keys, positions along the last axis. -/
theorem k_at (b : Fin 8) (n : Fin 16) (j : Fin 1024) (r : Fin 256) (s : Fin 4096) (hs : (s : ℕ) = n * 256 + r) :
    val_main_v85 (F := Ideal) x g w (ix4 b n j r) = key (fun l => x (ix2 ⟨b * 4096 + s, by omega⟩ l)) (fun l => g (ix1 l)) (fun k j => w (ix2 k j)) s j := by
  obtain rfl : s = ⟨n * 256 + r, place_lt n r⟩ := Fin.ext hs
  refine Eq.trans ?_ (congrArg (· * Ideal.ofBits .f32 1031798784#32) ((k_turned x g w b ⟨n * 256 + r, place_lt n r⟩ ⟨j / 256, by omega⟩ ⟨j % 256, by omega⟩).trans ?_))
  · pointwise [val_main_v85, val_main_v82, val_main_v81, val_main_v80, val_main_v79, val_main_cst_6]
  · exact rot_congr (fun _ => rfl) (fun _ => rfl) (fun _ => rfl) (Fin.ext (by simp only []; omega))

end Cert.Reference3Ideal.Inproj
-- ==== Proof.InprojClaim.lean ====
module

public import proofs.«01_k».proof.Defs
public import proofs.«01_k».proof.Proof.InprojArray
public import proofs.«01_k».proof.Proof.InprojRef
public import proofs.«01_k».proof.Proof.Gen.Reference3Ideal.Run
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Inproj

open Cert.Reference3Ideal Cert.Reference3Ideal.Read

/-- The reference's queries, row by row. -/
theorem ref_queries (x : FVec Ideal S32768x1024 .f32) (g : FVec Ideal S1024 .f32) (w : FVec Ideal S1024x6144 .f32) (R : Fin 32768) (j : Fin 1024) :
    val_main_v84 (F := Ideal) x g w (ix2 R j)
      = query (fun l => x (ix2 R l)) (fun l => g (ix1 l)) (fun k j => w (ix2 k j)) ⟨R.val % 4096, Nat.mod_lt _ (by decide)⟩ j := by
  have e : R = ⟨(⟨R.val / 4096, by omega⟩ : Fin 8) * 4096 + (⟨R.val % 4096, Nat.mod_lt _ (by decide)⟩ : Fin 4096), by simp only []; omega⟩ :=
    Fin.ext (by simp only []; omega)
  refine Eq.trans (congrArg (fun R => val_main_v84 (F := Ideal) x g w (ix2 R j)) e) ((Cert.Reference3Ideal.Inproj.q_at x g w _ _ j).trans ?_)
  exact congrArg (fun R => query (fun l => x (ix2 R l)) (fun l => g (ix1 l)) (fun k j => w (ix2 k j)) _ j) e.symm

/-- The reference's keys, block by block. -/
theorem ref_keys (x : FVec Ideal S32768x1024 .f32) (g : FVec Ideal S1024 .f32) (w : FVec Ideal S1024x6144 .f32) (b : Fin 8) (n : Fin 16) (j : Fin 1024) (r : Fin 256) :
    val_main_v85 (F := Ideal) x g w (ix4 b n j r)
      = key (fun l => x (ix2 (Cert.Kernel3Ideal.Inproj.row b n r) l)) (fun l => g (ix1 l)) (fun k j => w (ix2 k j)) (Cert.Kernel3Ideal.Inproj.place n r) j := by
  refine (Cert.Reference3Ideal.Inproj.k_at x g w b n j r (Cert.Kernel3Ideal.Inproj.place n r) rfl).trans ?_
  exact congrArg (fun R => key (fun l => x (ix2 R l)) (fun l => g (ix1 l)) (fun k j => w (ix2 k j)) (Cert.Kernel3Ideal.Inproj.place n r) j)
    (Fin.ext (by simp only [Cert.Kernel3Ideal.Inproj.row, Cert.Kernel3Ideal.Inproj.place]; omega))

/-- The input projection kernel and its reference end with the same four arrays, whatever the arguments. -/
theorem algebraic : Cert.algebraic_Kernel3Ideal_Reference3Ideal := by
  pair_intro
  · run_from Cert.Kernel3Ideal.Value.run_blocks m g
  · run_from Cert.Reference3Ideal.Value.run m' g'
    · rw [Cert.Reference3Ideal.Read.val_main_v84_eq, (hagree c).1, (hagree c).2.1, (hagree c).2.2, Cert.Kernel3Ideal.Inproj.final_q m c]
      funext i
      exact (congrArg _ (eq_ix2 i)).trans (ref_queries _ _ _ (i 0) (i 1))
    · rw [Cert.Reference3Ideal.Read.val_main_v85_eq, (hagree c).1, (hagree c).2.1, (hagree c).2.2, Cert.Kernel3Ideal.Inproj.final_k m c]
      funext i
      exact (congrArg _ (eq_ix4 i)).trans (ref_keys _ _ _ (i 0) (i 1) (i 2) (i 3))
    · rw [Cert.Reference3Ideal.Read.val_main_v86_eq, Cert.Kernel3Ideal.Inproj.final_v m c]
      funext i
      exact (congrArg _ (eq_ix2 i)).trans (Cert.Reference3Ideal.Inproj.v_at _ _ _ (i 0) (i 1))
    · rw [Cert.Reference3Ideal.Read.val_main_v88_eq, Cert.Kernel3Ideal.Inproj.final_gate m c]
      funext i
      exact (congrArg _ (eq_ix2 i)).trans (Cert.Reference3Ideal.Inproj.gate_at _ _ _ (i 0) (i 1))

/-- The reference of the input projection terminates from any memory and keeps its arguments. -/
theorem reference_frame : Cert.quiescent_Reference3Ideal := by
  intro m g _
  exact (θ_run _ _ _).mono (fun r h => ⟨fun c => by obtain ⟨_, _, _, _, h⟩ := h c; exact h, sem_eq_zero_of_no_sems rfl r.2⟩) (Cert.Reference3Ideal.Value.run m g)

end Cert.Inproj
-- ==== Proof.KvqSpec.lean ====
module

public import proofs.«01_k».proof.Proof.InprojSpec

@[expose] public section

noncomputable section

open Idealize.ShloMosaic

namespace Cert.Kvq

open Cert.Inproj (proj)

/-- One head's 64 numbers, normed by their root mean square and scaled by the gains. -/
def normed (p g : Fin 64 → EReal) (d : Fin 64) : EReal :=
  p d * Ideal.rsqrt (Ideal.div (∑ e : Fin 64, p e * p e) (Ideal.ofBits .f32 1115684864#32) + Ideal.ofBits .f32 897988541#32) * g d

/-- A normed number depends on its head and gains entry by entry. -/
theorem normed_congr {p p' g g' : Fin 64 → EReal} {d d' : Fin 64} (hp : ∀ e, p e = p' e) (hg : ∀ e, g e = g' e) (hd : d = d') :
    normed p g d = normed p' g' d' := by
  rw [funext hp, funext hg, hd]

/-- A row's key at one of 1024 columns, 16 heads of 64: the head's projections, normed. -/
def key (x g : Fin 1024 → EReal) (w : Fin 1024 → Fin 1024 → EReal) (kg : Fin 64 → EReal) (j : Fin 1024) : EReal :=
  normed (fun d => proj x g (w ⟨j / 64 * 64 + d, by omega⟩)) kg ⟨j % 64, by omega⟩

/-- A row's entry among 80 rows a head: the head's 64 values, then 16 ones. -/
def value (x g : Fin 1024 → EReal) (w : Fin 1024 → Fin 1024 → EReal) (R : Fin 1280) : EReal :=
  if h : R.val % 80 < 64 then proj x g (w ⟨R / 80 * 64 + R % 80, by omega⟩) else Ideal.ofBits .f32 1065353216#32

/-- A row's entry among 128 rows a head: the head's 64 queries in the half of its parity, zeros in the other. -/
def query (x g : Fin 1024 → EReal) (w : Fin 1024 → Fin 1024 → EReal) (qg : Fin 64 → EReal) (R : Fin 2048) : EReal :=
  if R.val % 128 / 64 = R.val / 128 % 2 then normed (fun d => proj x g (w ⟨R / 128 * 64 + d, by omega⟩)) qg ⟨R % 64, by omega⟩
  else Ideal.ofBits .f32 0#32

end Cert.Kvq
-- ==== Proof.KvqBlock.lean ====
module

public import proofs.«01_k».proof.Defs
public import proofs.«01_k».proof.Proof.KvqSpec
public import proofs.«01_k».proof.Proof.Gen.Kernel4Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel4Ideal.Kvq

open Cert.Kernel4Ideal Cert.Kernel4Ideal.Gen Cert.Kvq
open Cert.Inproj (proj)
open Cert.Kernel2Ideal.Ffn (hid)

/-- The block normed for keys and values, at a row and a column, is that row's hidden value. -/
theorem pay3_at (x : FVec Ideal S1024x1024 .f32) (g : FVec Ideal S1x1024 .f32) (r k : Fin 1024) :
    k0_pay3 (F := Ideal) x g (ix2 r k) = hid (fun l => x (ix2 r l)) (fun l => g (ix2 0 l)) k := by
  unfold hid
  pointwise [k0_pay3, k0_pay2]

/-- The block normed for queries, at a row and a column, is that row's hidden value. -/
theorem pay4_at (x : FVec Ideal S1024x1024 .f32) (g : FVec Ideal S1x1024 .f32) (r k : Fin 1024) :
    k0_pay4 (F := Ideal) x g (ix2 r k) = hid (fun l => x (ix2 r l)) (fun l => g (ix2 0 l)) k := by
  unfold hid
  pointwise [k0_pay4, k0_pay2]

/-- A block's projection entry through the block normed for keys and values. -/
theorem proj_pay3 (x : FVec Ideal S1024x1024 .f32) (g : FVec Ideal S1x1024 .f32) (r : Fin 1024) (w : Fin 1024 → EReal) :
    proj (fun l => x (ix2 r l)) (fun l => g (ix2 0 l)) w = ∑ k : Fin 1024, w k * k0_pay3 (F := Ideal) x g (ix2 r k) :=
  Finset.sum_congr rfl fun k _ => (congrArg (· * w k) (pay3_at x g r k).symm).trans (mul_comm _ _)

/-- A block's projection entry through the block normed for queries. -/
theorem proj_pay4 (x : FVec Ideal S1024x1024 .f32) (g : FVec Ideal S1x1024 .f32) (r : Fin 1024) (w : Fin 1024 → EReal) :
    proj (fun l => x (ix2 r l)) (fun l => g (ix2 0 l)) w = ∑ k : Fin 1024, w k * k0_pay4 (F := Ideal) x g (ix2 r k) :=
  Finset.sum_congr rfl fun k _ => (congrArg (· * w k) (pay4_at x g r k).symm).trans (mul_comm _ _)

end Cert.Kernel4Ideal.Kvq
-- ==== Proof.KvqKey.lean ====
module

public import proofs.«01_k».proof.Defs
public import proofs.«01_k».proof.Proof.KvqSpec
public import proofs.«01_k».proof.Proof.KvqBlock
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel4Ideal.Kvq

open Cert.Kernel4Ideal Cert.Kernel4Ideal.Gen Cert.Kvq
open Cert.Inproj (proj)
open Cert.Kernel2Ideal.Ffn (hid)

variable (m : (ℓ : Loc nD τ sig) → Buf (Elt Ideal) ℓ) (c : Dev nD) (t : Fin cfg0.N)
  (x0 : FVec Ideal S1024x1024 .f32) (x1 x2 : FVec Ideal S1x1024 .f32) (x3 x4 x5 : FVec Ideal S1024x1024 .bf16) (x6 x7 : FVec Ideal S64x1 .f32)

set_option maxHeartbeats 2000000 in
/-- The block of keys. -/
theorem k_point (h0 : iblk m c 0 t = x0) (h1 : iblk m c 1 t = x1) (h2 : iblk m c 2 t = x2) (h3 : iblk m c 3 t = x3) (h4 : iblk m c 4 t = x4)
    (h5 : iblk m c 5 t = x5) (h6 : iblk m c 6 t = x6) (h7 : iblk m c 7 t = x7) (r j : Fin 1024) :
    (outsAt0 m c t).1 (ix2 r j) = key (fun l => x0 (ix2 r l)) (fun l => x1 (ix2 0 l)) (fun j k => x3 (ix2 j k)) (fun d => x6 (ix2 d 0)) j := by
  unfold Gen.outsAt0
  rw [h0, h1, h2, h3, h4, h5, h6, h7]
  unfold key normed
  simp only [proj_pay3]
  frame_out
  canon_tiles z q
  all_goals
    replace q0 : (r : ℕ) = _ := q0
    open_payloads
    pointwise
    split_ifs
    all_goals blk_point []
    all_goals
      replace q1 : (j : ℕ) = _ := q1
      omega

end Cert.Kernel4Ideal.Kvq
-- ==== Proof.KvqValue.lean ====
module

public import proofs.«01_k».proof.Defs
public import proofs.«01_k».proof.Proof.KvqSpec
public import proofs.«01_k».proof.Proof.KvqBlock
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel4Ideal.Kvq

open Cert.Kernel4Ideal Cert.Kernel4Ideal.Gen Cert.Kvq
open Cert.Inproj (proj)
open Cert.Kernel2Ideal.Ffn (hid)

variable (m : (ℓ : Loc nD τ sig) → Buf (Elt Ideal) ℓ) (c : Dev nD) (t : Fin cfg0.N)
  (x0 : FVec Ideal S1024x1024 .f32) (x1 x2 : FVec Ideal S1x1024 .f32) (x3 x4 x5 : FVec Ideal S1024x1024 .bf16) (x6 x7 : FVec Ideal S64x1 .f32)

set_option maxHeartbeats 2000000 in
/-- The block of values and ones, positions along the last axis. -/
theorem v_point (h0 : iblk m c 0 t = x0) (h1 : iblk m c 1 t = x1) (h2 : iblk m c 2 t = x2) (h3 : iblk m c 3 t = x3) (h4 : iblk m c 4 t = x4)
    (h5 : iblk m c 5 t = x5) (h6 : iblk m c 6 t = x6) (h7 : iblk m c 7 t = x7) (n : Fin 4) (R : Fin 1280) (r : Fin 256)
    (s : Fin 1024) (hs : (s : ℕ) = 256 * n + r) :
    (outsAt0 m c t).2.1 (ix4 0 n R r) = value (fun l => x0 (ix2 s l)) (fun l => x1 (ix2 0 l)) (fun j k => x4 (ix2 j k)) R := by
  unfold Gen.outsAt0
  rw [h0, h1, h2, h3, h4, h5, h6, h7]
  unfold value
  simp only [proj_pay3]
  frame_out
  clear h0 h1 h2 h3 h4 h5 h6 h7
  generalize k0_pay3 (F := Ideal) x0 x1 = H
  canon_tiles z q using (View.cover_of_tiledBy _ ![1, 1, 16, 256] (by sl_kernel_rfl) _)
  all_goals replace q1 : (n : ℕ) = _ := q1
  all_goals replace q2 : (R : ℕ) = _ := q2
  all_goals replace q3 : (r : ℕ) = _ := q3
  all_goals first
    | (rw [dif_neg (by omega)]; open_payloads; pointwise; done)
    | (rw [dif_pos (by omega)]; open_payloads; pointwise; blk_point []; all_goals omega)

end Cert.Kernel4Ideal.Kvq
-- ==== Proof.KvqQuery.lean ====
module

public import proofs.«01_k».proof.Defs
public import proofs.«01_k».proof.Proof.KvqSpec
public import proofs.«01_k».proof.Proof.KvqBlock
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel4Ideal.Kvq

open Cert.Kernel4Ideal Cert.Kernel4Ideal.Gen Cert.Kvq
open Cert.Inproj (proj)
open Cert.Kernel2Ideal.Ffn (hid)

variable (m : (ℓ : Loc nD τ sig) → Buf (Elt Ideal) ℓ) (c : Dev nD) (t : Fin cfg0.N)
  (x0 : FVec Ideal S1024x1024 .f32) (x1 x2 : FVec Ideal S1x1024 .f32) (x3 x4 x5 : FVec Ideal S1024x1024 .bf16) (x6 x7 : FVec Ideal S64x1 .f32)

set_option maxHeartbeats 2000000 in
/-- The block of queries and zeros, positions along the last axis. -/
theorem q_point (h0 : iblk m c 0 t = x0) (h1 : iblk m c 1 t = x1) (h2 : iblk m c 2 t = x2) (h3 : iblk m c 3 t = x3) (h4 : iblk m c 4 t = x4)
    (h5 : iblk m c 5 t = x5) (h6 : iblk m c 6 t = x6) (h7 : iblk m c 7 t = x7) (n : Fin 4) (R : Fin 2048) (r : Fin 256)
    (s : Fin 1024) (hs : (s : ℕ) = 256 * n + r) :
    (outsAt0 m c t).2.2 (ix4 0 n R r)
      = query (fun l => x0 (ix2 s l)) (fun l => x2 (ix2 0 l)) (fun j k => x5 (ix2 j k)) (fun d => x7 (ix2 d 0)) R := by
  unfold Gen.outsAt0
  rw [h0, h1, h2, h3, h4, h5, h6, h7]
  unfold query normed
  simp only [proj_pay4]
  frame_out
  clear h0 h1 h2 h3 h4 h5 h6 h7
  generalize k0_pay4 (F := Ideal) x0 x2 = H
  canon_tiles z q
  all_goals replace q1 : (n : ℕ) = _ := q1
  all_goals replace q2 : (R : ℕ) = _ := q2
  all_goals replace q3 : (r : ℕ) = _ := q3
  all_goals first
    | (rw [if_neg (by omega)]; open_payloads; pointwise; done)
    | (rw [if_pos (by omega)]; open_payloads; pointwise; blk_point []; all_goals omega)

end Cert.Kernel4Ideal.Kvq
-- ==== Proof.KvqArray.lean ====
module

public import proofs.«01_k».proof.Defs
public import proofs.«01_k».proof.Proof.KvqKey
public import proofs.«01_k».proof.Proof.KvqValue
public import proofs.«01_k».proof.Proof.KvqQuery
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Kernel4Ideal.Kvq

open Cert.Kernel4Ideal Cert.Kernel4Ideal.Gen Cert.Kvq
open Cert.Inproj (proj)

variable (m : (ℓ : Loc nD τ sig) → Buf (Elt Ideal) ℓ)

/-- What each point is given and writes: its rows, the whole gains and weights, its rows of each result. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![t.val, 0]
    ∧ win0_9.index t = ![t.val / 4, t.val % 4, 0, 0] ∧ win0_10.index t = ![t.val / 4, t.val % 4, 0, 0] :=
  (by decide +kernel : ∀ t : Fin grid0.N, _)

variable (c : Dev nD) (t : Fin cfg0.N)

/-- The gains of the rows that give keys and values. -/
theorem tab_gkv (j : Fin 1024) : (show FVec Ideal S1x1024 .f32 from V m c main_v0) (ix2 0 j) = m ((c : Thread nD τ).loc main_arg1) (ix1 j) := by
  unfold Gen.V
  simp only [Gen.hostOps0, List.flatten_cons, List.flatten_nil, List.cons_append, List.nil_append, List.append_nil]
  after_reads_simp
  pointwise

/-- The gains of the rows that give queries. -/
theorem tab_gq (j : Fin 1024) : (show FVec Ideal S1x1024 .f32 from V m c main_v1) (ix2 0 j) = m ((c : Thread nD τ).loc main_arg4) (ix1 j) := by
  unfold Gen.V
  simp only [Gen.hostOps0, List.flatten_cons, List.flatten_nil, List.cons_append, List.nil_append, List.append_nil]
  after_reads_simp
  pointwise

/-- The key columns, turned. -/
theorem tab_wk (j k : Fin 1024) : (show FVec Ideal S1024x1024 .bf16 from V m c main_v4) (ix2 j k) = m ((c : Thread nD τ).loc main_arg2) (ix2 k ⟨0 + j, by omega⟩) := by
  unfold Gen.V
  simp only [Gen.hostOps0, List.flatten_cons, List.flatten_nil, List.cons_append, List.nil_append, List.append_nil]
  after_reads_simp
  pointwise

/-- The value columns, turned. -/
theorem tab_wv (j k : Fin 1024) : (show FVec Ideal S1024x1024 .bf16 from V m c main_v7) (ix2 j k) = m ((c : Thread nD τ).loc main_arg2) (ix2 k ⟨1024 + j, by omega⟩) := by
  unfold Gen.V
  simp only [Gen.hostOps0, List.flatten_cons, List.flatten_nil, List.cons_append, List.nil_append, List.append_nil]
  after_reads_simp
  pointwise

/-- The query columns, turned. -/
theorem tab_wq (j k : Fin 1024) : (show FVec Ideal S1024x1024 .bf16 from V m c main_v9) (ix2 j k) = m ((c : Thread nD τ).loc main_arg5) (ix2 k j) := by
  unfold Gen.V
  simp only [Gen.hostOps0, List.flatten_cons, List.flatten_nil, List.cons_append, List.nil_append, List.append_nil]
  after_reads_simp
  pointwise

/-- The key heads' gains. -/
theorem tab_kg (d : Fin 64) : (show FVec Ideal S64x1 .f32 from V m c main_v10) (ix2 d 0) = m ((c : Thread nD τ).loc main_arg3) (ix1 d) := by
  unfold Gen.V
  simp only [Gen.hostOps0, List.flatten_cons, List.flatten_nil, List.cons_append, List.nil_append, List.append_nil]
  after_reads_simp
  pointwise

/-- The query heads' gains, scaled. -/
theorem tab_qg (d : Fin 64) : (show FVec Ideal S64x1 .f32 from V m c main_v13) (ix2 d 0) = (show EReal from m ((c : Thread nD τ).loc main_arg6) (ix1 d)) * Ideal.ofBits .f32 1043900987#32 := by
  unfold Gen.V
  simp only [Gen.hostOps0, List.flatten_cons, List.flatten_nil, List.cons_append, List.nil_append, List.append_nil]
  after_reads_simp
  pointwise

/-- A point's rows. -/
theorem in_x (r : Fin 1024) (j : Fin 1024) (R : Fin 32768) (hR : (R : ℕ) = t.val * 1024 + r) :
    (show FVec Ideal S1024x1024 .f32 from iblk m c 0 t) (ix2 r j) = m ((c : Thread nD τ).loc main_arg0) (ix2 R j) := by
  unfold iblk
  unfold Gen.V
  simp only [Gen.hostOps0, List.flatten_cons, List.flatten_nil, List.cons_append, List.nil_append, List.append_nil]
  after_reads_simp
  blk_point [idx t]

/-- The gains of the rows that give keys and values, at every point. -/
theorem in_gkv (j : Fin 1024) : (show FVec Ideal S1x1024 .f32 from iblk m c 1 t) (ix2 (0 : Fin 1) j) = m ((c : Thread nD τ).loc main_arg1) (ix1 j) := by
  unfold iblk
  have e : ((cfg0.win 1).blk t).view.emb (ix2 (0 : Fin 1) j) = ix2 (0 : Fin 1) j := by blk_ext [idx t]
  change (show FVec Ideal S1x1024 .f32 from V m c main_v0) (((cfg0.win 1).blk t).view.emb (ix2 (0 : Fin 1) j)) = _
  rw [e]
  exact tab_gkv m c j

/-- The gains of the rows that give queries, at every point. -/
theorem in_gq (j : Fin 1024) : (show FVec Ideal S1x1024 .f32 from iblk m c 2 t) (ix2 (0 : Fin 1) j) = m ((c : Thread nD τ).loc main_arg4) (ix1 j) := by
  unfold iblk
  have e : ((cfg0.win 2).blk t).view.emb (ix2 (0 : Fin 1) j) = ix2 (0 : Fin 1) j := by blk_ext [idx t]
  change (show FVec Ideal S1x1024 .f32 from V m c main_v1) (((cfg0.win 2).blk t).view.emb (ix2 (0 : Fin 1) j)) = _
  rw [e]
  exact tab_gq m c j

/-- The key columns, turned, at every point. -/
theorem in_wk (j k : Fin 1024) : (show FVec Ideal S1024x1024 .bf16 from iblk m c 3 t) (ix2 j k) = m ((c : Thread nD τ).loc main_arg2) (ix2 k ⟨0 + j, by omega⟩) := by
  unfold iblk
  have e : ((cfg0.win 3).blk t).view.emb (ix2 j k) = ix2 j k := by blk_ext [idx t]
  change (show FVec Ideal S1024x1024 .bf16 from V m c main_v4) (((cfg0.win 3).blk t).view.emb (ix2 j k)) = _
  rw [e]
  exact tab_wk m c j k

/-- The value columns, turned, at every point. -/
theorem in_wv (j k : Fin 1024) : (show FVec Ideal S1024x1024 .bf16 from iblk m c 4 t) (ix2 j k) = m ((c : Thread nD τ).loc main_arg2) (ix2 k ⟨1024 + j, by omega⟩) := by
  unfold iblk
  have e : ((cfg0.win 4).blk t).view.emb (ix2 j k) = ix2 j k := by blk_ext [idx t]
  change (show FVec Ideal S1024x1024 .bf16 from V m c main_v7) (((cfg0.win 4).blk t).view.emb (ix2 j k)) = _
  rw [e]
  exact tab_wv m c j k

/-- The query columns, turned, at every point. -/
theorem in_wq (j k : Fin 1024) : (show FVec Ideal S1024x1024 .bf16 from iblk m c 5 t) (ix2 j k) = m ((c : Thread nD τ).loc main_arg5) (ix2 k j) := by
  unfold iblk
  have e : ((cfg0.win 5).blk t).view.emb (ix2 j k) = ix2 j k := by blk_ext [idx t]
  change (show FVec Ideal S1024x1024 .bf16 from V m c main_v9) (((cfg0.win 5).blk t).view.emb (ix2 j k)) = _
  rw [e]
  exact tab_wq m c j k

/-- The key heads' gains, at every point. -/
theorem in_kg (d : Fin 64) : (show FVec Ideal S64x1 .f32 from iblk m c 6 t) (ix2 d (0 : Fin 1)) = m ((c : Thread nD τ).loc main_arg3) (ix1 d) := by
  unfold iblk
  have e : ((cfg0.win 6).blk t).view.emb (ix2 d (0 : Fin 1)) = ix2 d (0 : Fin 1) := by blk_ext [idx t]
  change (show FVec Ideal S64x1 .f32 from V m c main_v10) (((cfg0.win 6).blk t).view.emb (ix2 d (0 : Fin 1))) = _
  rw [e]
  exact tab_kg m c d

/-- The query heads' gains, scaled, at every point. -/
theorem in_qg (d : Fin 64) : (show FVec Ideal S64x1 .f32 from iblk m c 7 t) (ix2 d (0 : Fin 1)) = (show EReal from m ((c : Thread nD τ).loc main_arg6) (ix1 d)) * Ideal.ofBits .f32 1043900987#32 := by
  unfold iblk
  have e : ((cfg0.win 7).blk t).view.emb (ix2 d (0 : Fin 1)) = ix2 d (0 : Fin 1) := by blk_ext [idx t]
  change (show FVec Ideal S64x1 .f32 from V m c main_v13) (((cfg0.win 7).blk t).view.emb (ix2 d (0 : Fin 1))) = _
  rw [e]
  exact tab_qg m c d

/-- The row of a sequence's block: sequence `b`, block `n`, row `r`. -/
abbrev row (b : Fin 8) (n : Fin 16) (r : Fin 256) : Fin 32768 := ⟨b * 4096 + n * 256 + r, by omega⟩

/-- The keys from the arguments: row and column. -/
def keys (R : Fin 32768) (j : Fin 1024) : EReal :=
  key (fun l => m ((c : Thread nD τ).loc main_arg0) (ix2 R l)) (fun l => m ((c : Thread nD τ).loc main_arg1) (ix1 l))
    (fun j k => m ((c : Thread nD τ).loc main_arg2) (ix2 k ⟨0 + j, by omega⟩)) (fun d => m ((c : Thread nD τ).loc main_arg3) (ix1 d)) j

/-- The values and ones from the arguments: sequence, block, one of 80 rows a head, row of the block. -/
def values (b : Fin 8) (n : Fin 16) (J : Fin 1280) (r : Fin 256) : EReal :=
  value (fun l => m ((c : Thread nD τ).loc main_arg0) (ix2 (row b n r) l)) (fun l => m ((c : Thread nD τ).loc main_arg1) (ix1 l))
    (fun j k => m ((c : Thread nD τ).loc main_arg2) (ix2 k ⟨1024 + j, by omega⟩)) J

/-- The queries and zeros from the arguments: sequence, block, one of 128 rows a head, row of the block. -/
def queries (b : Fin 8) (n : Fin 16) (J : Fin 2048) (r : Fin 256) : EReal :=
  query (fun l => m ((c : Thread nD τ).loc main_arg0) (ix2 (row b n r) l)) (fun l => m ((c : Thread nD τ).loc main_arg4) (ix1 l))
    (fun j k => m ((c : Thread nD τ).loc main_arg5) (ix2 k j)) (fun d => (show EReal from m ((c : Thread nD τ).loc main_arg6) (ix1 d)) * Ideal.ofBits .f32 1043900987#32) J

/-- A key depends on its arguments entry by entry. -/
theorem key_congr {x x' g g' : Fin 1024 → EReal} {w w' : Fin 1024 → Fin 1024 → EReal} {kg kg' : Fin 64 → EReal} {j j' : Fin 1024} (hx : ∀ l, x l = x' l)
    (hg : ∀ l, g l = g' l) (hw : ∀ j k, w j k = w' j k) (hk : ∀ d, kg d = kg' d) (hj : j = j') : key x g w kg j = key x' g' w' kg' j' := by
  rw [funext hx, funext hg, funext fun j => funext (hw j), funext hk, hj]

/-- A value depends on its arguments entry by entry. -/
theorem value_congr {x x' g g' : Fin 1024 → EReal} {w w' : Fin 1024 → Fin 1024 → EReal} {J J' : Fin 1280} (hx : ∀ l, x l = x' l)
    (hg : ∀ l, g l = g' l) (hw : ∀ j k, w j k = w' j k) (hJ : J = J') : value x g w J = value x' g' w' J' := by
  rw [funext hx, funext hg, funext fun j => funext (hw j), hJ]

/-- A query depends on its arguments entry by entry. -/
theorem query_congr {x x' g g' : Fin 1024 → EReal} {w w' : Fin 1024 → Fin 1024 → EReal} {qg qg' : Fin 64 → EReal} {J J' : Fin 2048} (hx : ∀ l, x l = x' l)
    (hg : ∀ l, g l = g' l) (hw : ∀ j k, w j k = w' j k) (hq : ∀ d, qg d = qg' d) (hJ : J = J') : query x g w qg J = query x' g' w' qg' J' := by
  rw [funext hx, funext hg, funext fun j => funext (hw j), funext hq, hJ]

/-- A point's keys, from the arguments. -/
theorem k_of (r j : Fin 1024) (R : Fin 32768) (hR : (R : ℕ) = t.val * 1024 + r) (J : Fin 1024) (hJ : (J : ℕ) = j) :
    (outsAt0 m c t).1 (ix2 r j) = keys m c R J :=
  (k_point m c t _ _ _ _ _ _ _ _ rfl rfl rfl rfl rfl rfl rfl rfl r j).trans
    (key_congr (fun l => in_x m c t r l R hR) (fun l => in_gkv m c t l) (fun j k => in_wk m c t j k) (fun d => in_kg m c t d) (Fin.ext hJ.symm))

/-- A point's values and ones, from the arguments. -/
theorem v_of (a : Fin 1) (n : Fin 4) (j : Fin 1280) (r : Fin 256) (b : Fin 8) (hb : (b : ℕ) = t.val / 4) (N : Fin 16) (hN : (N : ℕ) = (t.val % 4) * 4 + n)
    (J : Fin 1280) (hJ : (J : ℕ) = j) (r' : Fin 256) (hr : (r' : ℕ) = r) : (outsAt0 m c t).2.1 (ix4 a n j r) = values m c b N J r' := by
  obtain rfl : a = 0 := Subsingleton.elim _ _
  have ht : t.val < 32 := t.isLt
  have hR : ((row b N r' : Fin 32768) : ℕ) = t.val * 1024 + (⟨256 * n + r, by omega⟩ : Fin 1024) := by simp only []; omega
  exact (v_point m c t _ _ _ _ _ _ _ _ rfl rfl rfl rfl rfl rfl rfl rfl n j r ⟨256 * n + r, by omega⟩ rfl).trans
    (value_congr (fun l => in_x m c t _ l _ hR) (fun l => in_gkv m c t l) (fun j k => in_wv m c t j k) (Fin.ext hJ.symm))

/-- A point's queries and zeros, from the arguments. -/
theorem q_of (a : Fin 1) (n : Fin 4) (j : Fin 2048) (r : Fin 256) (b : Fin 8) (hb : (b : ℕ) = t.val / 4) (N : Fin 16) (hN : (N : ℕ) = (t.val % 4) * 4 + n)
    (J : Fin 2048) (hJ : (J : ℕ) = j) (r' : Fin 256) (hr : (r' : ℕ) = r) : (outsAt0 m c t).2.2 (ix4 a n j r) = queries m c b N J r' := by
  obtain rfl : a = 0 := Subsingleton.elim _ _
  have ht : t.val < 32 := t.isLt
  have hR : ((row b N r' : Fin 32768) : ℕ) = t.val * 1024 + (⟨256 * n + r, by omega⟩ : Fin 1024) := by simp only []; omega
  exact (q_point m c t _ _ _ _ _ _ _ _ rfl rfl rfl rfl rfl rfl rfl rfl n j r ⟨256 * n + r, by omega⟩ rfl).trans
    (query_congr (fun l => in_x m c t _ l _ hR) (fun l => in_gq m c t l) (fun j k => in_wq m c t j k) (fun d => in_qg m c t d) (Fin.ext hJ.symm))

/-- The keys after the run. -/
theorem final_k : (dats m 0 c).arrAt 8 cfg0.N = fun i : S32768x1024.Idx => keys m c (i 0) (i 1) := by
  refine (dats m 0 c).arrAt_eq_of_covers 8 _ (by decide +kernel) fun t _ y => ?_
  blk_simp
  rw [after0_8]
  exact Eq.trans (congrArg (outsAt0 m c t).1 (eq_ix2 y)) (k_of m c t (y 0) (y 1) _ (by blk_simp [idx t]) _ (by blk_simp [idx t]))

/-- The values and ones after the run. -/
theorem final_v : (dats m 0 c).arrAt 9 cfg0.N = fun i : S8x16x1280x256.Idx => values m c (i 0) (i 1) (i 2) (i 3) := by
  refine (dats m 0 c).arrAt_eq_of_covers 9 _ (by decide +kernel) fun t _ y => ?_
  blk_simp
  rw [after0_9]
  exact Eq.trans (congrArg (outsAt0 m c t).2.1 (eq_ix4 y)) (v_of m c t (y 0) (y 1) (y 2) (y 3) _ (by blk_simp [idx t]) _ (by blk_simp [idx t])
    _ (by blk_simp [idx t]) _ (by blk_simp [idx t]))

/-- The queries and zeros after the run. -/
theorem final_q : (dats m 0 c).arrAt 10 cfg0.N = fun i : S8x16x2048x256.Idx => queries m c (i 0) (i 1) (i 2) (i 3) := by
  refine (dats m 0 c).arrAt_eq_of_covers 10 _ (by decide +kernel) fun t _ y => ?_
  blk_simp
  rw [after0_10]
  exact Eq.trans (congrArg (outsAt0 m c t).2.2 (eq_ix4 y)) (q_of m c t (y 0) (y 1) (y 2) (y 3) _ (by blk_simp [idx t]) _ (by blk_simp [idx t])
    _ (by blk_simp [idx t]) _ (by blk_simp [idx t]))

end Cert.Kernel4Ideal.Kvq
-- ==== Proof.KvqRef.lean ====
module

public import proofs.«01_k».proof.Defs
public import proofs.«01_k».proof.Proof.KvqSpec
public import proofs.«01_k».proof.Proof.Gen.Reference4Ideal.Read
public import Idealize.ShloMosaic.Lib.Pointwise

@[expose] public section

set_option maxRecDepth 16384

noncomputable section

open Idealize.ShloMosaic Idealize.ShloMosaic.TcCoe Idealize.SL.Sem

namespace Cert.Reference4Ideal.Kvq

open Cert.Reference4Ideal Cert.Reference4Ideal.Read Cert.Kvq
open Cert.Inproj (proj)
open Cert.Kernel2Ideal.Ffn (hid)

variable (x : FVec Ideal S32768x1024 .f32) (g1 g4 : FVec Ideal S1024 .f32) (w : FVec Ideal S1024x2048 .f32) (kg qg : FVec Ideal S64 .f32) (wq : FVec Ideal S1024x1024 .f32)

/-- The normed rows that give keys and values. -/
theorem hid_kv (i : Fin 32768) (k : Fin 1024) :
    val_main_v12 (F := Ideal) x g1 (ix2 i k) = hid (fun l => x (ix2 i l)) (fun l => g1 (ix1 l)) k := by
  unfold hid
  pointwise [val_main_v12, val_main_v11, val_main_v10, val_main_v9, val_main_v8, val_main_v7, val_main_v6, val_main_v5, val_main_v4, val_main_v3, val_main_v2, val_main_v1, val_main_v0, val_main_cst, val_main_cst_0, val_main_cst_1]

/-- The normed rows that give queries. -/
theorem hid_q (i : Fin 32768) (k : Fin 1024) :
    val_main_v42 (F := Ideal) x g4 (ix2 i k) = hid (fun l => x (ix2 i l)) (fun l => g4 (ix1 l)) k := by
  unfold hid
  pointwise [val_main_v42, val_main_v41, val_main_v40, val_main_v39, val_main_v38, val_main_v37, val_main_v36, val_main_v35, val_main_v34, val_main_v33, val_main_v32, val_main_v31, val_main_v30, val_main_cst_5, val_main_cst_6, val_main_cst_7]

/-- The reference's projection to keys and values. -/
theorem proj_kv (i : Fin 32768) (j : Fin 2048) :
    val_main_v13 (F := Ideal) x g1 w (ix2 i j) = proj (fun l => x (ix2 i l)) (fun l => g1 (ix1 l)) (fun k => w (ix2 k j)) := by
  unfold proj
  rw [show hid (fun l => x (ix2 i l)) (fun l => g1 (ix1 l)) = fun k => val_main_v12 (F := Ideal) x g1 (ix2 i k) from
    funext fun k => (hid_kv x g1 i k).symm]
  pointwise [val_main_v13]

/-- The reference's projection to queries. -/
theorem proj_q (i : Fin 32768) (j : Fin 1024) :
    val_main_v43 (F := Ideal) x g4 wq (ix2 i j) = proj (fun l => x (ix2 i l)) (fun l => g4 (ix1 l)) (fun k => wq (ix2 k j)) := by
  unfold proj
  rw [show hid (fun l => x (ix2 i l)) (fun l => g4 (ix1 l)) = fun k => val_main_v42 (F := Ideal) x g4 (ix2 i k) from
    funext fun k => (hid_q x g4 i k).symm]
  pointwise [val_main_v43]

/-- The reference's keys, head by head. -/
theorem k_head (i : Fin 32768) (h : Fin 16) (d : Fin 64) :
    val_main_v29 (F := Ideal) x g1 w kg (ix3 i h d)
      = normed (fun d => proj (fun l => x (ix2 i l)) (fun l => g1 (ix1 l)) (fun k => w (ix2 k ⟨0 + (h * 64 + d), by omega⟩))) (fun d => kg (ix1 d)) d := by
  unfold normed
  simp only [← proj_kv x g1 w]
  pointwise [val_main_v29, val_main_v28, val_main_v27, val_main_v26, val_main_v25, val_main_v24, val_main_v23, val_main_v22, val_main_v21, val_main_v20, val_main_v19, val_main_v18, val_main_v17, val_main_v16, val_main_v14, val_main_cst_2, val_main_cst_3, val_main_cst_4]

/-- The reference's queries, head by head, before their layout. -/
theorem q_head (i : Fin 32768) (h : Fin 16) (d : Fin 64) :
    val_main_v59 (F := Ideal) x g4 wq qg (ix3 i h d)
      = normed (fun d => proj (fun l => x (ix2 i l)) (fun l => g4 (ix1 l)) (fun k => wq (ix2 k ⟨h * 64 + d, by omega⟩)))
          (fun d => qg (ix1 d) * Ideal.ofBits .f32 1043900987#32) d := by
  unfold normed
  simp only [← proj_q x g4 wq]
  rw [← mul_assoc]
  pointwise [val_main_v59, val_main_v58, val_main_v57, val_main_v56, val_main_v55, val_main_v54, val_main_v53, val_main_v52, val_main_v51, val_main_v50, val_main_v49, val_main_v48, val_main_v47, val_main_v46, val_main_v45, val_main_v44, val_main_cst_8, val_main_cst_9, val_main_cst_10, val_main_cst_11]

/-- The reference's keys. -/
theorem k_at (i : Fin 32768) (j : Fin 1024) :
    val_main_v78 (F := Ideal) x g1 w kg (ix2 i j)
      = key (fun l => x (ix2 i l)) (fun l => g1 (ix1 l)) (fun j k => w (ix2 k ⟨0 + j, by omega⟩)) (fun d => kg (ix1 d)) j := by
  refine Eq.trans ?_ (k_head x g1 w kg i ⟨j / 64, by omega⟩ ⟨j % 64, by omega⟩)
  pointwise [val_main_v78, val_main_v77]

/-- The reference's values, turned. -/
theorem v_turned (b : Fin 8) (n h : Fin 16) (e : Fin 64) (r : Fin 256) :
    val_main_v61 (F := Ideal) x g1 w (ix5 b n h e r) = val_main_v13 (F := Ideal) x g1 w (ix2 ⟨b * 4096 + n * 256 + r, by omega⟩ ⟨1024 + (h * 64 + e), by omega⟩) := by
  pointwise [val_main_v61, val_main_v60, val_main_v15]

/-- A head's rows before 64 hold the values. -/
theorem v_lo (b : Fin 8) (n h : Fin 16) (e : Fin 80) (r : Fin 256) (he : e.val < 64) :
    val_main_v63 (F := Ideal) x g1 w (ix5 b n h e r) = val_main_v61 (F := Ideal) x g1 w (ix5 b n h ⟨e, he⟩ r) := by
  unfold val_main_v63
  generalize val_main_v61 (F := Ideal) x g1 w = y
  pointwise [val_main_v62, val_main_cst_12]
  exact dif_pos he

/-- A head's rows from 64 on hold ones. -/
theorem v_hi (b : Fin 8) (n h : Fin 16) (e : Fin 80) (r : Fin 256) (he : ¬ e.val < 64) :
    val_main_v63 (F := Ideal) x g1 w (ix5 b n h e r) = Ideal.ofBits .f32 1065353216#32 := by
  unfold val_main_v63
  generalize val_main_v61 (F := Ideal) x g1 w = y
  pointwise [val_main_v62, val_main_cst_12]
  exact dif_neg he

/-- A flat position's digits. -/
theorem digits (b n J r : ℕ) (hn : n < 16) (hJ : J < 1280) (hr : r < 256) :
    (((b * 16 + n) * 1280 + J) * 256 + r) / 5242880 = b ∧ (((b * 16 + n) * 1280 + J) * 256 + r) / 327680 % 16 = n
      ∧ (((b * 16 + n) * 1280 + J) * 256 + r) / 20480 % 16 = J / 80 ∧ (((b * 16 + n) * 1280 + J) * 256 + r) / 256 % 80 = J % 80
      ∧ (((b * 16 + n) * 1280 + J) * 256 + r) % 256 = r := by
  refine ⟨?_, ?_, ?_, ?_, ?_⟩ <;> omega

/-- The layout of the values and ones. -/
theorem v_flat (b : Fin 8) (n : Fin 16) (J : Fin 1280) (r : Fin 256) :
    val_main_v80 (F := Ideal) x g1 w (ix4 b n J r) = val_main_v63 (F := Ideal) x g1 w (ix5 b n ⟨J / 80, by omega⟩ ⟨J % 80, by omega⟩ r) := by
  rw [val_main_v80_apply, val_main_v79_apply]
  have e : idx_main_v79 (ix4 b n J r) = ix5 b n ⟨J / 80, by omega⟩ ⟨J % 80, by omega⟩ r := by
    obtain ⟨e0, e1, e2, e3, e4⟩ := digits b.val n.val J.val r.val n.isLt J.isLt r.isLt
    funext a
    match a with
    | ⟨0, _⟩ => exact Fin.ext e0
    | ⟨1, _⟩ => exact Fin.ext e1
    | ⟨2, _⟩ => exact Fin.ext e2
    | ⟨3, _⟩ => exact Fin.ext e3
    | ⟨4, _⟩ => exact Fin.ext e4
  rw [e]
  rfl

/-- The queries, turned. -/
theorem q_turned (b : Fin 8) (n h : Fin 16) (e : Fin 64) (r : Fin 256) :
    val_main_v74 (F := Ideal) x g4 wq qg (ix5 b n h e r) = val_main_v59 (F := Ideal) x g4 wq qg (ix3 ⟨b * 4096 + n * 256 + r, by omega⟩ h e) := by
  pointwise [val_main_v74, val_main_v73]

/-- Which half of a head's rows holds its queries: the half of the head's parity. -/
theorem own (h : Fin 16) (p : Fin 2) : val_main_v71 (F := Ideal) (ix2 h p) = if p.val = h.val % 2 then 1 else 0 := by
  revert h p
  decide +kernel

/-- The queries in their half, zeros in the other. -/
theorem q_half (b : Fin 8) (n h : Fin 16) (p : Fin 2) (e : Fin 64) (r : Fin 256) :
    val_main_v76 (F := Ideal) x g4 wq qg (ix6 b n h p e r)
      = if p.val = h.val % 2 then val_main_v74 (F := Ideal) x g4 wq qg (ix5 b n h e r) else Ideal.ofBits .f32 0#32 := by
  pointwise [val_main_v76, val_main_v75, val_main_v72, val_main_call1_v0, val_main_call1_v1, val_main_call1_v2, val_main_call1_v3, val_main_cst_13]
  rw [own]
  split_ifs
  · rfl
  · exact Ideal.ofBits_zero_f32

/-- The layout of the queries. -/
theorem q_flat (b : Fin 8) (n : Fin 16) (J : Fin 2048) (r : Fin 256) :
    val_main_v82 (F := Ideal) x g4 wq qg (ix4 b n J r)
      = val_main_v76 (F := Ideal) x g4 wq qg (ix6 b n ⟨J / 128, by omega⟩ ⟨J / 64 % 2, by omega⟩ ⟨J % 64, by omega⟩ r) := by
  pointwise [val_main_v82, val_main_v81]

/-- The reference's values and ones. -/
theorem v_at (b : Fin 8) (n : Fin 16) (J : Fin 1280) (r : Fin 256) (R : Fin 32768) (hR : (R : ℕ) = b * 4096 + n * 256 + r) :
    val_main_v80 (F := Ideal) x g1 w (ix4 b n J r)
      = value (fun l => x (ix2 R l)) (fun l => g1 (ix1 l)) (fun j k => w (ix2 k ⟨1024 + j, by omega⟩)) J := by
  rw [v_flat]
  unfold value
  by_cases h : J.val % 80 < 64
  · rw [dif_pos h, v_lo _ _ _ _ _ _ _ _ h, v_turned, ← proj_kv x g1 w]
    exact congrArg (val_main_v13 (F := Ideal) x g1 w) (congrArg₂ ix2 (Fin.ext hR.symm) (Fin.ext (by simp only [])))
  · rw [dif_neg h, v_hi _ _ _ _ _ _ _ _ h]

/-- The reference's queries and zeros. -/
theorem q_at (b : Fin 8) (n : Fin 16) (J : Fin 2048) (r : Fin 256) (R : Fin 32768) (hR : (R : ℕ) = b * 4096 + n * 256 + r) :
    val_main_v82 (F := Ideal) x g4 wq qg (ix4 b n J r)
      = query (fun l => x (ix2 R l)) (fun l => g4 (ix1 l)) (fun j k => wq (ix2 k j)) (fun d => qg (ix1 d) * Ideal.ofBits .f32 1043900987#32) J := by
  have hlt : b.val * 4096 + n.val * 256 + r.val < 32768 := by omega
  obtain rfl : R = ⟨b * 4096 + n * 256 + r, hlt⟩ := Fin.ext hR
  rw [q_flat, q_half]
  unfold query
  by_cases h : J.val / 64 % 2 = J.val / 128 % 2
  · rw [if_pos h, if_pos (by omega), q_turned, q_head]
  · rw [if_neg h, if_neg (by omega)]

end Cert.Reference4Ideal.Kvq
-- ==== Proof.KvqClaim.lean ====
module

public import proofs.«01_k».proof.Defs
public import proofs.«01_k».proof.Proof.KvqArray
public import proofs.«01_k».proof.Proof.KvqRef
public import proofs.«01_k».proof.Proof.Gen.Reference4Ideal.Run
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Kvq

/-- The key, value and query projection kernel and its reference end with the same three arrays, whatever the arguments. -/
theorem algebraic : Cert.algebraic_Kernel4Ideal_Reference4Ideal := by
  pair_intro
  · run_from Cert.Kernel4Ideal.Value.run_blocks m g
  · run_from Cert.Reference4Ideal.Value.run m' g'
    · rw [Cert.Reference4Ideal.Read.val_main_v78_eq, Cert.Kernel4Ideal.Kvq.final_k m c]
      funext i
      exact (congrArg _ (eq_ix2 i)).trans (Cert.Reference4Ideal.Kvq.k_at _ _ _ _ (i 0) (i 1))
    · rw [Cert.Reference4Ideal.Read.val_main_v80_eq, Cert.Kernel4Ideal.Kvq.final_v m c]
      funext i
      exact (congrArg _ (eq_ix4 i)).trans (Cert.Reference4Ideal.Kvq.v_at _ _ _ (i 0) (i 1) (i 2) (i 3) _ rfl)
    · rw [Cert.Reference4Ideal.Read.val_main_v82_eq, (hagree c).1, (hagree c).2.2.2.2.1, (hagree c).2.2.2.2.2.1, (hagree c).2.2.2.2.2.2, Cert.Kernel4Ideal.Kvq.final_q m c]
      funext i
      exact (congrArg _ (eq_ix4 i)).trans (Cert.Reference4Ideal.Kvq.q_at _ _ _ _ (i 0) (i 1) (i 2) (i 3) _ rfl)

/-- The reference of the key, value and query projections terminates from any memory and keeps its arguments. -/
theorem reference_frame : Cert.quiescent_Reference4Ideal := by
  intro m g _
  exact (θ_run _ _ _).mono (fun r h => ⟨fun c => by obtain ⟨_, _, _, h⟩ := h c; exact h, sem_eq_zero_of_no_sems rfl r.2⟩) (Cert.Reference4Ideal.Value.run m g)

end Cert.Kvq
-- ==== Proof.RetentionRefFrame.lean ====
module

public import proofs.«01_k».proof.Defs
public import proofs.«01_k».proof.Proof.Gen.ReferenceIdeal.Run
public import Idealize.ShloMosaic.Lib.Quiescent

@[expose] public section

noncomputable section

open Idealize.ShloMosaic Idealize.ShloMosaic.TcCoe Idealize.SL.Sem

namespace Cert.Retention

/-- The reference of the retention call terminates from any memory and keeps its arguments. -/
theorem reference_frame : Cert.quiescent_ReferenceIdeal := fun m g _ =>
  (θ_run _ _ _).mono (fun r h => ⟨fun c => (h c).2, sem_eq_zero_of_no_sems rfl r.2⟩) (Cert.ReferenceIdeal.Value.run m g)

/-- The same under the precondition, which it does not need. -/
theorem reference_frame_pre [hPre_finite_qkv : Cert.Pre_finite_qkv.Facts] : Cert.quiescent_ReferenceIdeal_pre_finite_qkv := fun m g _ => reference_frame m g trivial

end Cert.Retention
-- ==== Proof.RetentionBlock.lean ====
module

public import proofs.«01_k».proof.Defs
public import proofs.«01_k».proof.Proof.Gen.KernelIdeal.Value
public import proofs.«01_k».proof.Proof.RetentionSpec
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Ret

open Cert.KernelIdeal Cert.KernelIdeal.Gen
open Cert.Retention (gated)

/-- What a list of stores leaves at a place inside a rectangle is what a load of that rectangle reads there. -/
theorem canon_at {sig : RefSig} {κ : Kind} {sp : Space} {s : Shape} {e : EltTy} {Val : EltTy → Type} [∀ e, Nonempty (Val e)] (v : View sig κ sp s e)
    (L : List (View.Piece Val s e)) (B : LoadRect s) (j) : View.canon L (B.idx j) = v.readCov L B j :=
  (congrFun (View.readCov_eq_canon' v L B) j).symm

/-- A state entry after one block: the entry before it decayed, plus the block's decayed keys times values. -/
def upd (K kd : Fin 4 → Fin 256 → Fin 256 → EReal) (V : Fin 4 → Fin 256 → Fin 512 → EReal) (sd : Fin 4 → Fin 512 → EReal)
    (S : Fin 4 → Fin 256 → Fin 512 → EReal) (h : Fin 4) (d : Fin 256) (e : Fin 512) : EReal :=
  S h d e * sd h e + ∑ s : Fin 256, K h d s * kd h d s * V h s e

/-- One row's attention over its block, plus what the state carries from earlier blocks. -/
def mix (q qd : Fin 256 → EReal) (K : Fin 256 → Fin 256 → EReal) (I : Fin 256 → EReal) (V : Fin 256 → Fin 512 → EReal)
    (S : Fin 256 → Fin 512 → EReal) (e : Fin 512) : EReal :=
  (∑ s : Fin 256, (∑ d : Fin 256, q d * K d s) * I s * V s e) + ∑ d : Fin 256, q d * qd d * S d e

/-- The heads' keys of block `s` of a point, by head, feature and row. -/
def keys (K : FVec Ideal S1x2x1024x256 .bf16) (s : Fin 2) (h : Fin 4) (d r : Fin 256) : EReal :=
  K (ix4 0 s ⟨h * 256 + d, by omega⟩ r)

/-- The heads' values (or gates) of block `s` of a point, by head, row and column. -/
def vals (V : FVec Ideal S512x2048 .bf16) (s : Fin 2) (h : Fin 4) (r : Fin 256) (e : Fin 512) : EReal :=
  V (ix2 ⟨s * 256 + r, by omega⟩ ⟨h * 512 + e, by omega⟩)

/-- The heads' key decays, by head, feature and row. -/
def kdec (kd : FVec Ideal S1024x256 .f32) (h : Fin 4) (d r : Fin 256) : EReal := kd (ix2 ⟨h * 256 + d, by omega⟩ r)

/-- The state after the block `s` of a point, from the state before it. -/
def next (K : FVec Ideal S1x2x1024x256 .bf16) (V : FVec Ideal S512x2048 .bf16) (kd : FVec Ideal S1024x256 .f32) (sd : FVec Ideal S4x1x512 .f32)
    (s : Fin 2) (S : Fin 4 → Fin 256 → Fin 512 → EReal) : Fin 4 → Fin 256 → Fin 512 → EReal :=
  upd (keys K s) (kdec kd) (vals V s) (fun h e => sd (ix3 h 0 e)) S

/-- One gated row of block `s` of a point, from the state before the block. -/
def row (Q : FVec Ideal S512x1024 .bf16) (K : FVec Ideal S1x2x1024x256 .bf16) (V G : FVec Ideal S512x2048 .bf16) (qd : FVec Ideal S256x1024 .f32)
    (I : FVec Ideal S4x256x256 .f32) (gn : FVec Ideal S1x2048 .f32) (s : Fin 2) (S : Fin 4 → Fin 256 → Fin 512 → EReal)
    (r : Fin 256) (h : Fin 4) (e : Fin 512) : EReal :=
  gated (mix (fun d => Q (ix2 ⟨s * 256 + r, by omega⟩ ⟨h * 256 + d, by omega⟩)) (fun d => qd (ix2 r ⟨h * 256 + d, by omega⟩)) (keys K s h)
    (fun l => I (ix3 h r l)) (vals V s h) (S h)) (fun e => gn (ix2 0 ⟨h * 512 + e, by omega⟩)) (vals G s h r) e

/-- One gated row of a point's 512 rows: the first 256 meet the state before the point, the others the state after its first block. -/
def rows (Q : FVec Ideal S512x1024 .bf16) (K : FVec Ideal S1x2x1024x256 .bf16) (V G : FVec Ideal S512x2048 .bf16) (qd : FVec Ideal S256x1024 .f32)
    (kd : FVec Ideal S1024x256 .f32) (I : FVec Ideal S4x256x256 .f32) (sd : FVec Ideal S4x1x512 .f32) (gn : FVec Ideal S1x2048 .f32)
    (S : Fin 4 → Fin 256 → Fin 512 → EReal) (r : Fin 512) (c : Fin 2048) : EReal :=
  if r.val < 256 then row Q K V G qd I gn 0 S ⟨r % 256, by omega⟩ ⟨c / 512, by omega⟩ ⟨c % 512, by omega⟩
  else row Q K V G qd I gn 1 (next K V kd sd 0 S) ⟨r % 256, by omega⟩ ⟨c / 512, by omega⟩ ⟨c % 512, by omega⟩

section
variable (Q : FVec Ideal S512x1024 .bf16) (K : FVec Ideal S1x2x1024x256 .bf16) (V G : FVec Ideal S512x2048 .bf16) (qd : FVec Ideal S256x1024 .f32)
    (kd : FVec Ideal S1024x256 .f32) (I : FVec Ideal S4x256x256 .f32) (sd : FVec Ideal S4x1x512 .f32) (gn : FVec Ideal S1x2048 .f32)
    (S : Fin 4 → Fin 256 → Fin 512 → EReal)

/-- A gated row of the first block, however its place is named. -/
theorem rows_fst (r : Fin 512) (c : Fin 2048) (r' : Fin 256) (h : Fin 4) (e : Fin 512) (hr : (r : ℕ) = r') (hc : (c : ℕ) = h * 512 + e) :
    rows Q K V G qd kd I sd gn S r c = row Q K V G qd I gn 0 S r' h e := by
  unfold rows
  rw [if_pos (by omega), show (⟨r % 256, by omega⟩ : Fin 256) = r' from Fin.ext (by simp only []; omega),
    show (⟨c / 512, by omega⟩ : Fin 4) = h from Fin.ext (by simp only []; omega),
    show (⟨c % 512, by omega⟩ : Fin 512) = e from Fin.ext (by simp only []; omega)]

/-- A gated row of the second block, however its place is named. -/
theorem rows_snd (r : Fin 512) (c : Fin 2048) (r' : Fin 256) (h : Fin 4) (e : Fin 512) (hr : (r : ℕ) = 256 + r') (hc : (c : ℕ) = h * 512 + e) :
    rows Q K V G qd kd I sd gn S r c = row Q K V G qd I gn 1 (next K V kd sd 0 S) r' h e := by
  unfold rows
  rw [if_neg (by omega), show (⟨r % 256, by omega⟩ : Fin 256) = r' from Fin.ext (by simp only []; omega),
    show (⟨c / 512, by omega⟩ : Fin 4) = h from Fin.ext (by simp only []; omega),
    show (⟨c % 512, by omega⟩ : Fin 512) = e from Fin.ext (by simp only []; omega)]

end

variable (m : (ℓ : Loc nD τ sig) → Buf (Elt Ideal) ℓ)

/-- The state a later point of a sequence leaves: the state the point before it left, taken through both blocks. -/
theorem state_later (c : Dev nD) (t : Fin cfg0.N) (h0 : ¬ t.val % 8 = 0) (K : FVec Ideal S1x2x1024x256 .bf16)
    (V : FVec Ideal S512x2048 .bf16) (kd : FVec Ideal S1024x256 .f32) (sd : FVec Ideal S4x1x512 .f32)
    (hK : iblk m c 1 t = K) (hV : iblk m c 2 t = V) (hkd : iblk m c 6 t = kd) (hsd : iblk m c 8 t = sd) (S : FVec Ideal S4x256x512 .f32)
    (hS : ∀ h, (outsAt0 m c (t.val - 1) h).2 = S)
    (h : Fin 4) (d : Fin 256) (e : Fin 512) :
    (outsAt0 m c t.val t.isLt).2 (ix3 h d e) = next K V kd sd 1 (next K V kd sd 0 (fun h d e => S (ix3 h d e))) h d e := by
  rw [outsAt0_B m c t h0]
  dsimp only
  rw [hK, hV, hkd, hsd, hS]
  frame_open
  simp (disch := decide) only [↓ View.readCov_skip, ↓ View.readCov_cons_toLoadRect, ↓ View.readCov_fill]
  frame_out
  simp only [read_unread_whole]
  have hh : h = 0 ∨ h = 1 ∨ h = 2 ∨ h = 3 := by revert h; decide
  rcases hh with rfl | rfl | rfl | rfl
  · rw [show ix3 (0 : Fin 4) d e = (Rect.unit (s := S4x256x512) ![0, 0, 0] ![1, 256, 512]
      inb_S4x256x512_S1x256x512_0_0_0).toLoadRect.idx (ix3 0 d e) from by idx_ext]
    rw [canon_at (View.whole cc0_scratch0)]
    simp (disch := decide) only [↓ View.readCov_skip, ↓ View.readCov_cons_toLoadRect]
    open_payloads
    pointwise [next, upd, keys, vals, kdec]
  · rw [show ix3 (1 : Fin 4) d e = (Rect.unit (s := S4x256x512) ![1, 0, 0] ![1, 256, 512]
      inb_S4x256x512_S1x256x512_1_0_0).toLoadRect.idx (ix3 0 d e) from by idx_ext]
    rw [canon_at (View.whole cc0_scratch0)]
    simp (disch := decide) only [↓ View.readCov_skip, ↓ View.readCov_cons_toLoadRect]
    open_payloads
    pointwise [next, upd, keys, vals, kdec]
  · rw [show ix3 (2 : Fin 4) d e = (Rect.unit (s := S4x256x512) ![2, 0, 0] ![1, 256, 512]
      inb_S4x256x512_S1x256x512_2_0_0).toLoadRect.idx (ix3 0 d e) from by idx_ext]
    rw [canon_at (View.whole cc0_scratch0)]
    simp (disch := decide) only [↓ View.readCov_skip, ↓ View.readCov_cons_toLoadRect]
    open_payloads
    pointwise [next, upd, keys, vals, kdec]
  · rw [show ix3 (3 : Fin 4) d e = (Rect.unit (s := S4x256x512) ![3, 0, 0] ![1, 256, 512]
      inb_S4x256x512_S1x256x512_3_0_0).toLoadRect.idx (ix3 0 d e) from by idx_ext]
    rw [canon_at (View.whole cc0_scratch0)]
    simp (disch := decide) only [↓ View.readCov_skip, ↓ View.readCov_cons_toLoadRect]
    open_payloads
    pointwise [next, upd, keys, vals, kdec]

/-- The state a sequence's first point leaves: zero taken through both blocks. -/
theorem state_first (c : Dev nD) (t : Fin cfg0.N) (h0 : t.val % 8 = 0) (K : FVec Ideal S1x2x1024x256 .bf16)
    (V : FVec Ideal S512x2048 .bf16) (kd : FVec Ideal S1024x256 .f32) (sd : FVec Ideal S4x1x512 .f32)
    (hK : iblk m c 1 t = K) (hV : iblk m c 2 t = V) (hkd : iblk m c 6 t = kd) (hsd : iblk m c 8 t = sd)
    (h : Fin 4) (d : Fin 256) (e : Fin 512) :
    (outsAt0 m c t.val t.isLt).2 (ix3 h d e) = next K V kd sd 1 (next K V kd sd 0 (fun _ _ _ => Ideal.ofBits .f32 0#32)) h d e := by
  rw [outsAt0_A m c t h0]
  dsimp only
  rw [hK, hV, hkd, hsd]
  frame_open
  simp (disch := decide) only [↓ View.readCov_skip, ↓ View.readCov_cons_toLoadRect, ↓ View.readCov_fill]
  frame_out
  have hh : h = 0 ∨ h = 1 ∨ h = 2 ∨ h = 3 := by revert h; decide
  rcases hh with rfl | rfl | rfl | rfl
  · rw [show ix3 (0 : Fin 4) d e = (Rect.unit (s := S4x256x512) ![0, 0, 0] ![1, 256, 512]
      inb_S4x256x512_S1x256x512_0_0_0).toLoadRect.idx (ix3 0 d e) from by idx_ext]
    rw [canon_at (View.whole cc0_scratch0)]
    simp (disch := decide) only [↓ View.readCov_skip, ↓ View.readCov_cons_toLoadRect]
    open_payloads
    pointwise [next, upd, keys, vals, kdec]
  · rw [show ix3 (1 : Fin 4) d e = (Rect.unit (s := S4x256x512) ![1, 0, 0] ![1, 256, 512]
      inb_S4x256x512_S1x256x512_1_0_0).toLoadRect.idx (ix3 0 d e) from by idx_ext]
    rw [canon_at (View.whole cc0_scratch0)]
    simp (disch := decide) only [↓ View.readCov_skip, ↓ View.readCov_cons_toLoadRect]
    open_payloads
    pointwise [next, upd, keys, vals, kdec]
  · rw [show ix3 (2 : Fin 4) d e = (Rect.unit (s := S4x256x512) ![2, 0, 0] ![1, 256, 512]
      inb_S4x256x512_S1x256x512_2_0_0).toLoadRect.idx (ix3 0 d e) from by idx_ext]
    rw [canon_at (View.whole cc0_scratch0)]
    simp (disch := decide) only [↓ View.readCov_skip, ↓ View.readCov_cons_toLoadRect]
    open_payloads
    pointwise [next, upd, keys, vals, kdec]
  · rw [show ix3 (3 : Fin 4) d e = (Rect.unit (s := S4x256x512) ![3, 0, 0] ![1, 256, 512]
      inb_S4x256x512_S1x256x512_3_0_0).toLoadRect.idx (ix3 0 d e) from by idx_ext]
    rw [canon_at (View.whole cc0_scratch0)]
    simp (disch := decide) only [↓ View.readCov_skip, ↓ View.readCov_cons_toLoadRect]
    open_payloads
    pointwise [next, upd, keys, vals, kdec]

end Cert.KernelIdeal.Ret
-- ==== Proof.RetentionRows.lean ====
module

public import proofs.«01_k».proof.Defs
public import proofs.«01_k».proof.Proof.RetentionBlock
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Ret

open Cert.KernelIdeal Cert.KernelIdeal.Gen
open Cert.Retention (gated)

variable (m : (ℓ : Loc nD τ sig) → Buf (Elt Ideal) ℓ)

/-- What a later point of a sequence leaves in its output block. -/
theorem out_later (c : Dev nD) (t : Fin cfg0.N) (h0 : ¬ t.val % 8 = 0) (Q : FVec Ideal S512x1024 .bf16) (K : FVec Ideal S1x2x1024x256 .bf16)
    (V : FVec Ideal S512x2048 .bf16) (G : FVec Ideal S512x2048 .bf16) (X : FVec Ideal S512x1024 .f32) (qd : FVec Ideal S256x1024 .f32)
    (kd : FVec Ideal S1024x256 .f32) (I : FVec Ideal S4x256x256 .f32) (sd : FVec Ideal S4x1x512 .f32) (gn : FVec Ideal S1x2048 .f32)
    (W : FVec Ideal S2048x1024 .bf16)
    (hQ : iblk m c 0 t = Q) (hK : iblk m c 1 t = K) (hV : iblk m c 2 t = V) (hG : iblk m c 3 t = G) (hX : iblk m c 4 t = X)
    (hqd : iblk m c 5 t = qd) (hkd : iblk m c 6 t = kd) (hI : iblk m c 7 t = I) (hsd : iblk m c 8 t = sd) (hgn : iblk m c 9 t = gn)
    (hW : iblk m c 10 t = W) (S : FVec Ideal S4x256x512 .f32)
    (hS : ∀ h, (outsAt0 m c (t.val - 1) h).2 = S)
    (r : Fin 512) (j : Fin 1024) :
    (outsAt0 m c t.val t.isLt).1 (ix2 r j) = X (ix2 r j) + ∑ k : Fin 2048, rows Q K V G qd kd I sd gn (fun h d e => S (ix3 h d e)) r k * W (ix2 k j) := by
  rw [outsAt0_B m c t h0]
  dsimp only
  rw [hQ, hK, hV, hG, hX, hqd, hkd, hI, hsd, hgn, hW, hS]
  frame_open
  simp (disch := decide) only [↓ View.readCov_skip, ↓ View.readCov_cons_toLoadRect, ↓ View.readCov_fill]
  frame_out
  simp only [read_unread_whole]
  pointwise [k0_pay1]
  refine congrArg₂ (· + ·) rfl (Finset.sum_congr rfl fun k _ => congrArg₂ (· * ·) ?_ rfl)
  rw [View.readCov_eq_canon']
  canon_tiles z q
  all_goals simp at q0 q1
  case' piece0 => refine Eq.trans ?_ (rows_snd Q K V G qd kd I sd gn _ r k (z 0) 3 (z 1) (by omega) (by simp only [Fin.val_zero, Fin.val_one, Fin.val_two, show ((3 : Fin 4) : ℕ) = 3 from rfl]; omega)).symm
  case' piece1 => refine Eq.trans ?_ (rows_snd Q K V G qd kd I sd gn _ r k (z 0) 2 (z 1) (by omega) (by simp only [Fin.val_zero, Fin.val_one, Fin.val_two, show ((3 : Fin 4) : ℕ) = 3 from rfl]; omega)).symm
  case' piece2 => refine Eq.trans ?_ (rows_snd Q K V G qd kd I sd gn _ r k (z 0) 1 (z 1) (by omega) (by simp only [Fin.val_zero, Fin.val_one, Fin.val_two, show ((3 : Fin 4) : ℕ) = 3 from rfl]; omega)).symm
  case' piece3 => refine Eq.trans ?_ (rows_snd Q K V G qd kd I sd gn _ r k (z 0) 0 (z 1) (by omega) (by simp only [Fin.val_zero, Fin.val_one, Fin.val_two, show ((3 : Fin 4) : ℕ) = 3 from rfl]; omega)).symm
  case' piece4 => refine Eq.trans ?_ (rows_fst Q K V G qd kd I sd gn _ r k (z 0) 3 (z 1) (by omega) (by simp only [Fin.val_zero, Fin.val_one, Fin.val_two, show ((3 : Fin 4) : ℕ) = 3 from rfl]; omega)).symm
  case' piece5 => refine Eq.trans ?_ (rows_fst Q K V G qd kd I sd gn _ r k (z 0) 2 (z 1) (by omega) (by simp only [Fin.val_zero, Fin.val_one, Fin.val_two, show ((3 : Fin 4) : ℕ) = 3 from rfl]; omega)).symm
  case' piece6 => refine Eq.trans ?_ (rows_fst Q K V G qd kd I sd gn _ r k (z 0) 1 (z 1) (by omega) (by simp only [Fin.val_zero, Fin.val_one, Fin.val_two, show ((3 : Fin 4) : ℕ) = 3 from rfl]; omega)).symm
  case' piece7 => refine Eq.trans ?_ (rows_fst Q K V G qd kd I sd gn _ r k (z 0) 0 (z 1) (by omega) (by simp only [Fin.val_zero, Fin.val_one, Fin.val_two, show ((3 : Fin 4) : ℕ) = 3 from rfl]; omega)).symm
  all_goals
    open_payloads
    pointwise [row, gated, mix, next, upd, keys, vals, kdec]
    try blk_point []

/-- What a sequence's first point leaves in its output block. -/
theorem out_first (c : Dev nD) (t : Fin cfg0.N) (h0 : t.val % 8 = 0) (Q : FVec Ideal S512x1024 .bf16) (K : FVec Ideal S1x2x1024x256 .bf16)
    (V : FVec Ideal S512x2048 .bf16) (G : FVec Ideal S512x2048 .bf16) (X : FVec Ideal S512x1024 .f32) (qd : FVec Ideal S256x1024 .f32)
    (kd : FVec Ideal S1024x256 .f32) (I : FVec Ideal S4x256x256 .f32) (sd : FVec Ideal S4x1x512 .f32) (gn : FVec Ideal S1x2048 .f32)
    (W : FVec Ideal S2048x1024 .bf16)
    (hQ : iblk m c 0 t = Q) (hK : iblk m c 1 t = K) (hV : iblk m c 2 t = V) (hG : iblk m c 3 t = G) (hX : iblk m c 4 t = X)
    (hqd : iblk m c 5 t = qd) (hkd : iblk m c 6 t = kd) (hI : iblk m c 7 t = I) (hsd : iblk m c 8 t = sd) (hgn : iblk m c 9 t = gn)
    (hW : iblk m c 10 t = W)
    (r : Fin 512) (j : Fin 1024) :
    (outsAt0 m c t.val t.isLt).1 (ix2 r j) = X (ix2 r j) + ∑ k : Fin 2048, rows Q K V G qd kd I sd gn (fun _ _ _ => Ideal.ofBits .f32 0#32) r k * W (ix2 k j) := by
  rw [outsAt0_A m c t h0]
  dsimp only
  rw [hQ, hK, hV, hG, hX, hqd, hkd, hI, hsd, hgn, hW]
  frame_open
  simp (disch := decide) only [↓ View.readCov_skip, ↓ View.readCov_cons_toLoadRect, ↓ View.readCov_fill]
  frame_out
  pointwise [k0_pay1]
  refine congrArg₂ (· + ·) rfl (Finset.sum_congr rfl fun k _ => congrArg₂ (· * ·) ?_ rfl)
  rw [View.readCov_eq_canon']
  canon_tiles z q
  all_goals simp at q0 q1
  case' piece0 => refine Eq.trans ?_ (rows_snd Q K V G qd kd I sd gn _ r k (z 0) 3 (z 1) (by omega) (by simp only [Fin.val_zero, Fin.val_one, Fin.val_two, show ((3 : Fin 4) : ℕ) = 3 from rfl]; omega)).symm
  case' piece1 => refine Eq.trans ?_ (rows_snd Q K V G qd kd I sd gn _ r k (z 0) 2 (z 1) (by omega) (by simp only [Fin.val_zero, Fin.val_one, Fin.val_two, show ((3 : Fin 4) : ℕ) = 3 from rfl]; omega)).symm
  case' piece2 => refine Eq.trans ?_ (rows_snd Q K V G qd kd I sd gn _ r k (z 0) 1 (z 1) (by omega) (by simp only [Fin.val_zero, Fin.val_one, Fin.val_two, show ((3 : Fin 4) : ℕ) = 3 from rfl]; omega)).symm
  case' piece3 => refine Eq.trans ?_ (rows_snd Q K V G qd kd I sd gn _ r k (z 0) 0 (z 1) (by omega) (by simp only [Fin.val_zero, Fin.val_one, Fin.val_two, show ((3 : Fin 4) : ℕ) = 3 from rfl]; omega)).symm
  case' piece4 => refine Eq.trans ?_ (rows_fst Q K V G qd kd I sd gn _ r k (z 0) 3 (z 1) (by omega) (by simp only [Fin.val_zero, Fin.val_one, Fin.val_two, show ((3 : Fin 4) : ℕ) = 3 from rfl]; omega)).symm
  case' piece5 => refine Eq.trans ?_ (rows_fst Q K V G qd kd I sd gn _ r k (z 0) 2 (z 1) (by omega) (by simp only [Fin.val_zero, Fin.val_one, Fin.val_two, show ((3 : Fin 4) : ℕ) = 3 from rfl]; omega)).symm
  case' piece6 => refine Eq.trans ?_ (rows_fst Q K V G qd kd I sd gn _ r k (z 0) 1 (z 1) (by omega) (by simp only [Fin.val_zero, Fin.val_one, Fin.val_two, show ((3 : Fin 4) : ℕ) = 3 from rfl]; omega)).symm
  case' piece7 => refine Eq.trans ?_ (rows_fst Q K V G qd kd I sd gn _ r k (z 0) 0 (z 1) (by omega) (by simp only [Fin.val_zero, Fin.val_one, Fin.val_two, show ((3 : Fin 4) : ℕ) = 3 from rfl]; omega)).symm
  all_goals
    open_payloads
    pointwise [row, gated, mix, next, upd, keys, vals, kdec]
    try blk_point []

end Cert.KernelIdeal.Ret
-- ==== Proof.RetentionTables.lean ====
module

public import proofs.«01_k».proof.Defs
public import proofs.«01_k».proof.Proof.Gen.KernelIdeal.Value
public import proofs.«01_k».proof.Proof.RetentionMath
public import Idealize.ShloMosaic.Lib.Pipeline.ValueKit
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.KernelIdeal.Ret

open Cert.KernelIdeal Cert.KernelIdeal.Gen
open Cert.Retention (dec dec_eq row_coe dist_coe)

variable (m : (ℓ : Loc nD τ sig) → Buf (Elt Ideal) ℓ)

/-- The chunk of a row of a block, as the words compute it: the quotient by 64. -/
theorem chunk_word : ∀ b : Fin 256, Scalar.select
          (IntOp.andi
            (IntOp.cmpi CmpIPredicate.ne
              (if BitVec.ofNat 32 (b : ℕ) = 0 then (0 : BitVec 32) else if (BitVec.ofNat 32 (b : ℕ)).msb = true then -1 else 1)
              (if 64#32 = 0 then (0 : BitVec 32) else if (64#32).msb = true then -1 else 1))
            (IntOp.cmpi CmpIPredicate.ne (IntOp.remsi ArithUnit.host (BitVec.ofNat 32 (b : ℕ)) 64#32) 0#32))
          (IntOp.subi (IntOp.divsi ArithUnit.host (BitVec.ofNat 32 (b : ℕ)) 64#32) 1#32)
          (IntOp.divsi ArithUnit.host (BitVec.ofNat 32 (b : ℕ)) 64#32) = BitVec.ofNat 32 ((b : ℕ) / 64) := by
  decide +kernel

/-- Comparing two chunks' words compares the chunks. -/
theorem chunk_sle : ∀ i j : Fin 4, IntOp.cmpi CmpIPredicate.sle (BitVec.ofNat 32 (j : ℕ)) (BitVec.ofNat 32 (i : ℕ)) = if (j : ℕ) ≤ i then 1#1 else 0#1 := by
  decide +kernel

set_option maxHeartbeats 1600000 in
/-- The query decays: row `a` of a block has decayed `a + 1` steps. -/
theorem tab_q (c : Dev nD) (h : Fin 4) (a b : Fin 256) : (show FVec Ideal S256x1024 .f32 from V m c main_v51) (ix2 a ⟨h * 256 + b, by omega⟩)
    = (dec h (((a : ℕ) : ℝ) + 1) : EReal) := by
  unfold Gen.V
  simp only [Gen.hostOps0, Gen.hostOps0_1, Gen.hostOps0_2, Gen.hostOps0_3, Gen.hostOps0_4, List.flatten_cons, List.flatten_nil, List.cons_append, List.nil_append, List.append_nil]
  after_reads_simp
  pointwise
  exact dec_eq h _ _ (by rw [row_coe _ (by omega), ← EReal.coe_one, ← EReal.coe_add])

set_option maxHeartbeats 1600000 in
/-- The key decays: row `b` of a block is `255 - b` steps from the block's last. -/
theorem tab_k (c : Dev nD) (h : Fin 4) (a b : Fin 256) : (show FVec Ideal S1024x256 .f32 from V m c main_v53) (ix2 ⟨h * 256 + a, by omega⟩ b)
    = (dec h (((256 : ℕ) : ℝ) - 1 - ((b : ℕ) : ℝ)) : EReal) := by
  unfold Gen.V
  simp only [Gen.hostOps0, Gen.hostOps0_1, Gen.hostOps0_2, Gen.hostOps0_3, Gen.hostOps0_4, List.flatten_cons, List.flatten_nil, List.cons_append, List.nil_append, List.append_nil]
  after_reads_simp
  pointwise
  exact dec_eq h _ _ (by
    rw [row_coe _ (by omega), show Ideal.ofBits .f32 1132396544#32 = ((255 : ℝ) : EReal) by simp [Ideal.ofBits, Ideal.ieee, -EReal.coe_mul]; norm_num,
      ← EReal.coe_sub]
    norm_num)

set_option maxHeartbeats 1600000 in
/-- The state decays by a block's 256 rows. -/
theorem tab_s (c : Dev nD) (h : Fin 4) (b : Fin 512) : (show FVec Ideal S4x1x512 .f32 from V m c main_v55) (ix3 h 0 b)
    = (dec h ((256 : ℕ) : ℝ) : EReal) := by
  unfold Gen.V
  simp only [Gen.hostOps0, Gen.hostOps0_1, Gen.hostOps0_2, Gen.hostOps0_3, Gen.hostOps0_4, List.flatten_cons, List.flatten_nil, List.cons_append, List.nil_append, List.append_nil]
  after_reads_simp
  pointwise
  exact dec_eq h _ _ (by
    rw [show Ideal.ofBits .f32 1132462080#32 = ((256 : ℝ) : EReal) by simp [Ideal.ofBits, Ideal.ieee, -EReal.coe_mul]; norm_num]
    norm_num)

set_option maxHeartbeats 1600000 in
/-- Within a block a row sees the rows of its own chunk and the chunks before it, by distance. -/
theorem tab_i (c : Dev nD) (h : Fin 4) (a b : Fin 256) : (show FVec Ideal S4x256x256 .f32 from V m c main_v29) (ix3 h a b)
    = ((if (b : ℕ) / 64 ≤ (a : ℕ) / 64 then dec h |((a : ℕ) : ℝ) - ((b : ℕ) : ℝ)| else 0 : ℝ) : EReal) := by
  unfold Gen.V
  simp only [Gen.hostOps0, Gen.hostOps0_1, Gen.hostOps0_2, Gen.hostOps0_3, Gen.hostOps0_4, List.flatten_cons, List.flatten_nil, List.cons_append, List.nil_append, List.append_nil]
  after_reads_simp
  simp only [StableHlo.TRef.toBuf, StableHlo.TRef.ofBuf, StableHlo.TRef.of, cast_eq, id]
  pointwise
  refine (congrArg₂ (fun p z => Scalar.select p z (0 : EReal)) ((congrArg₂ (IntOp.cmpi CmpIPredicate.sle) (chunk_word b) (chunk_word a)).trans
    (chunk_sle ⟨a / 64, by omega⟩ ⟨b / 64, by omega⟩)) (dec_eq h _ _ (dist_coe a b (by omega) (by omega)))).trans ?_
  dsimp only
  by_cases hab : (b : ℕ) / 64 ≤ (a : ℕ) / 64
  · rw [if_pos hab, if_pos hab]; rfl
  · rw [if_neg hab, if_neg hab]; rfl

end Cert.KernelIdeal.Ret
-- ==== Proof.RetentionInput.lean ====
module

public import proofs.«01_k».proof.Defs
public import proofs.«01_k».proof.Proof.RetentionTables
public import Idealize.ShloMosaic.Lib.Pipeline.ValueKit
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.KernelIdeal.Ret

open Cert.KernelIdeal Cert.KernelIdeal.Gen
open Cert.Retention (dec)

variable (m : (ℓ : Loc nD τ sig) → Buf (Elt Ideal) ℓ)

/-- Point `t` is given row block `t` of the rows, two blocks of the turned keys, and the whole of each table and weight. -/
theorem idx : ∀ t : Fin cfg0.N, win0_0.index t = ![t.val, 0] ∧ win0_1.index t = ![t.val / 8, t.val % 8, 0, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0, 0] ∧ win0_8.index t = ![0, 0, 0] ∧ win0_9.index t = ![0, 0] ∧ win0_10.index t = ![0, 0]
    ∧ win0_11.index t = ![t.val, 0] :=
  (by decide +kernel : ∀ t : Fin grid0.N, _)

variable (c : Dev nD) (t : Fin cfg0.N)

/-- A point's queries. -/
theorem in_q (r : Fin 512) (j : Fin 1024) (R : Fin 32768) (hR : (R : ℕ) = t.val * 512 + r) :
    (show FVec Ideal S512x1024 .bf16 from iblk m c 0 t) (ix2 r j) = m ((c : Thread nD τ).loc main_arg0) (ix2 R j) := by
  unfold iblk
  unfold Gen.V
  simp only [Gen.hostOps0, Gen.hostOps0_1, Gen.hostOps0_2, Gen.hostOps0_3, Gen.hostOps0_4, List.flatten_cons, List.flatten_nil, List.cons_append, List.nil_append, List.append_nil]
  after_reads_simp
  blk_point [idx t]

/-- A point's keys. -/
theorem in_k (s : Fin 2) (d : Fin 1024) (r : Fin 256) (b : Fin 8) (p : Fin 16) (hb : (b : ℕ) = t.val / 8) (hp : (p : ℕ) = (t.val % 8) * 2 + s) :
    (show FVec Ideal S1x2x1024x256 .bf16 from iblk m c 1 t) (ix4 0 s d r) = m ((c : Thread nD τ).loc main_arg1) (ix4 b p d r) := by
  unfold iblk
  unfold Gen.V
  simp only [Gen.hostOps0, Gen.hostOps0_1, Gen.hostOps0_2, Gen.hostOps0_3, Gen.hostOps0_4, List.flatten_cons, List.flatten_nil, List.cons_append, List.nil_append, List.append_nil]
  after_reads_simp
  blk_point [idx t]

/-- A point's values. -/
theorem in_v (r : Fin 512) (j : Fin 2048) (R : Fin 32768) (hR : (R : ℕ) = t.val * 512 + r) :
    (show FVec Ideal S512x2048 .bf16 from iblk m c 2 t) (ix2 r j) = m ((c : Thread nD τ).loc main_arg2) (ix2 R j) := by
  unfold iblk
  unfold Gen.V
  simp only [Gen.hostOps0, Gen.hostOps0_1, Gen.hostOps0_2, Gen.hostOps0_3, Gen.hostOps0_4, List.flatten_cons, List.flatten_nil, List.cons_append, List.nil_append, List.append_nil]
  after_reads_simp
  blk_point [idx t]

/-- A point's gates. -/
theorem in_g (r : Fin 512) (j : Fin 2048) (R : Fin 32768) (hR : (R : ℕ) = t.val * 512 + r) :
    (show FVec Ideal S512x2048 .bf16 from iblk m c 3 t) (ix2 r j) = m ((c : Thread nD τ).loc main_arg3) (ix2 R j) := by
  unfold iblk
  unfold Gen.V
  simp only [Gen.hostOps0, Gen.hostOps0_1, Gen.hostOps0_2, Gen.hostOps0_3, Gen.hostOps0_4, List.flatten_cons, List.flatten_nil, List.cons_append, List.nil_append, List.append_nil]
  after_reads_simp
  blk_point [idx t]

/-- A point's residual rows. -/
theorem in_x (r : Fin 512) (j : Fin 1024) (R : Fin 32768) (hR : (R : ℕ) = t.val * 512 + r) :
    (show FVec Ideal S512x1024 .f32 from iblk m c 4 t) (ix2 r j) = m ((c : Thread nD τ).loc main_arg4) (ix2 R j) := by
  unfold iblk
  unfold Gen.V
  simp only [Gen.hostOps0, Gen.hostOps0_1, Gen.hostOps0_2, Gen.hostOps0_3, Gen.hostOps0_4, List.flatten_cons, List.flatten_nil, List.cons_append, List.nil_append, List.append_nil]
  after_reads_simp
  blk_point [idx t]

/-- Every point's query decays. -/
theorem in_qd (h : Fin 4) (a b : Fin 256) : (show FVec Ideal S256x1024 .f32 from iblk m c 5 t) (ix2 a ⟨h * 256 + b, by omega⟩)
    = (dec h (((a : ℕ) : ℝ) + 1) : EReal) := by
  unfold iblk
  have e : ((cfg0.win 5).blk t).view.emb (ix2 a ⟨h * 256 + b, by omega⟩) = ix2 a ⟨h * 256 + b, by omega⟩ := by blk_ext [idx t]
  change (show FVec Ideal S256x1024 .f32 from V m c main_v51) (((cfg0.win 5).blk t).view.emb (ix2 a ⟨h * 256 + b, by omega⟩)) = _
  rw [e]
  exact tab_q m c h a b

/-- Every point's key decays. -/
theorem in_kd (h : Fin 4) (a b : Fin 256) : (show FVec Ideal S1024x256 .f32 from iblk m c 6 t) (ix2 ⟨h * 256 + a, by omega⟩ b)
    = (dec h (((256 : ℕ) : ℝ) - 1 - ((b : ℕ) : ℝ)) : EReal) := by
  unfold iblk
  have e : ((cfg0.win 6).blk t).view.emb (ix2 ⟨h * 256 + a, by omega⟩ b) = ix2 ⟨h * 256 + a, by omega⟩ b := by blk_ext [idx t]
  change (show FVec Ideal S1024x256 .f32 from V m c main_v53) (((cfg0.win 6).blk t).view.emb (ix2 ⟨h * 256 + a, by omega⟩ b)) = _
  rw [e]
  exact tab_k m c h a b

/-- Every point's weights within a block. -/
theorem in_i (h : Fin 4) (a b : Fin 256) : (show FVec Ideal S4x256x256 .f32 from iblk m c 7 t) (ix3 h a b)
    = ((if (b : ℕ) / 64 ≤ (a : ℕ) / 64 then dec h |((a : ℕ) : ℝ) - ((b : ℕ) : ℝ)| else 0 : ℝ) : EReal) := by
  unfold iblk
  have e : ((cfg0.win 7).blk t).view.emb (ix3 h a b) = ix3 h a b := by blk_ext [idx t]
  change (show FVec Ideal S4x256x256 .f32 from V m c main_v29) (((cfg0.win 7).blk t).view.emb (ix3 h a b)) = _
  rw [e]
  exact tab_i m c h a b

/-- Every point's state decays. -/
theorem in_sd (h : Fin 4) (b : Fin 512) : (show FVec Ideal S4x1x512 .f32 from iblk m c 8 t) (ix3 h 0 b) = (dec h ((256 : ℕ) : ℝ) : EReal) := by
  unfold iblk
  have e : ((cfg0.win 8).blk t).view.emb (ix3 h (0 : Fin 1) b) = ix3 h (0 : Fin 1) b := by blk_ext [idx t]
  change (show FVec Ideal S4x1x512 .f32 from V m c main_v55) (((cfg0.win 8).blk t).view.emb (ix3 h (0 : Fin 1) b)) = _
  rw [e]
  exact tab_s m c h b

set_option maxHeartbeats 1600000 in
/-- Every point's gain. -/
theorem in_gn (j : Fin 2048) : (show FVec Ideal S1x2048 .f32 from iblk m c 9 t) (ix2 0 j) = m ((c : Thread nD τ).loc main_arg5) (ix1 j) := by
  unfold iblk
  have e : ((cfg0.win 9).blk t).view.emb (ix2 (0 : Fin 1) j) = ix2 (0 : Fin 1) j := by blk_ext [idx t]
  change (show FVec Ideal S1x2048 .f32 from V m c main_v56) (((cfg0.win 9).blk t).view.emb (ix2 (0 : Fin 1) j)) = _
  rw [e]
  unfold Gen.V
  simp only [Gen.hostOps0, Gen.hostOps0_1, Gen.hostOps0_2, Gen.hostOps0_3, Gen.hostOps0_4, List.flatten_cons, List.flatten_nil, List.cons_append, List.nil_append, List.append_nil]
  after_reads_simp
  pointwise

set_option maxHeartbeats 1600000 in
/-- Every point's output matrix. -/
theorem in_w (k : Fin 2048) (j : Fin 1024) : (show FVec Ideal S2048x1024 .bf16 from iblk m c 10 t) (ix2 k j) = m ((c : Thread nD τ).loc main_arg6) (ix2 k j) := by
  unfold iblk
  have e : ((cfg0.win 10).blk t).view.emb (ix2 k j) = ix2 k j := by blk_ext [idx t]
  change (show FVec Ideal S2048x1024 .bf16 from V m c main_v57) (((cfg0.win 10).blk t).view.emb (ix2 k j)) = _
  rw [e]
  unfold Gen.V
  simp only [Gen.hostOps0, Gen.hostOps0_1, Gen.hostOps0_2, Gen.hostOps0_3, Gen.hostOps0_4, List.flatten_cons, List.flatten_nil, List.cons_append, List.nil_append, List.append_nil]
  after_reads_simp
  pointwise

end Cert.KernelIdeal.Ret
-- ==== Proof.RetentionArray.lean ====
module

public import proofs.«01_k».proof.Defs
public import proofs.«01_k».proof.Proof.RetentionRows
public import proofs.«01_k».proof.Proof.RetentionInput
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Ret

open Cert.KernelIdeal Cert.KernelIdeal.Gen
open Cert.Retention (gated dec st st_zero st_add_coe mix_block_coe seqK seqV seqK_coe seqV_coe Finite att out)

section
variable (K : FVec Ideal S1x2x1024x256 .bf16) (V G : FVec Ideal S512x2048 .bf16)
    (kd : FVec Ideal S1024x256 .f32) (sd : FVec Ideal S4x1x512 .f32) (s : Fin 2) (N : ℕ)
    (k : Fin 4 → Fin 256 → ℕ → ℝ) (v : Fin 4 → Fin 512 → ℕ → ℝ)
    (hK : ∀ h d r, keys K s h d r = (k h d (N + r) : EReal)) (hV : ∀ h r e, vals V s h r e = (v h e (N + r) : EReal))

/-- From the state after `N` rows a block's step makes the state after its 256 further rows. -/
theorem next_st (hK : ∀ h d r, keys K s h d r = (k h d (N + r) : EReal)) (hV : ∀ h r e, vals V s h r e = (v h e (N + r) : EReal))
    (hkd : ∀ h d (r : Fin 256), kdec kd h d r = (dec h (((256 : ℕ) : ℝ) - 1 - ((r : ℕ) : ℝ)) : EReal))
    (hsd : ∀ h e, sd (ix3 h 0 e) = (dec h ((256 : ℕ) : ℝ) : EReal)) :
    next K V kd sd s (fun h d e => (st h (k h d) (v h e) N : EReal)) = fun h d e => (st h (k h d) (v h e) (N + 256) : EReal) := by
  funext h d e
  unfold next upd
  simp only [hK, hV, hkd, hsd]
  rw [st_add_coe]

/-- From the state after `N` rows a block's rows are the retention's rows from `N` on, gated. -/
theorem row_st (hK : ∀ h d r, keys K s h d r = (k h d (N + r) : EReal)) (hV : ∀ h r e, vals V s h r e = (v h e (N + r) : EReal))
    (Q : FVec Ideal S512x1024 .bf16) (qd : FVec Ideal S256x1024 .f32) (I : FVec Ideal S4x256x256 .f32) (gn : FVec Ideal S1x2048 .f32)
    (r : Fin 256) (h : Fin 4) (e : Fin 512) (q : Fin 256 → ℝ) (hN : 64 ∣ N)
    (hQ : ∀ d : Fin 256, Q (ix2 ⟨s * 256 + r, by omega⟩ ⟨h * 256 + d, by omega⟩) = (q d : EReal))
    (hqd : ∀ d : Fin 256, qd (ix2 r ⟨h * 256 + d, by omega⟩) = (dec h (((r : ℕ) : ℝ) + 1) : EReal))
    (hI : ∀ l : Fin 256, I (ix3 h r l) = ((if (l : ℕ) / 64 ≤ (r : ℕ) / 64 then dec h |((r : ℕ) : ℝ) - ((l : ℕ) : ℝ)| else 0 : ℝ) : EReal)) :
    row Q K V G qd I gn s (fun h d e => (st h (k h d) (v h e) N : EReal)) r h e
      = gated (fun e => (Cert.Retention.mix h q (k h) (v h e) (N + r) : EReal)) (fun e => gn (ix2 0 ⟨h * 512 + e, by omega⟩)) (vals G s h r) e := by
  unfold row
  refine congrArg (fun o => gated o _ _ e) (funext fun e => ?_)
  unfold mix
  simp only [hK, hV, hQ, hqd, hI]
  rw [mix_block_coe h q (k h) (v h e) N 256 hN (by decide) r]

end

variable (m : (ℓ : Loc nD τ sig) → Buf (Elt Ideal) ℓ) (c : Dev nD)

/-- The grid has 64 points. -/
theorem points : cfg0.N = 64 := by decide +kernel

/-- A sequence's key column, from the argument. -/
abbrev kcol (b : Fin 8) (h : Fin 4) (d : Fin 256) : ℕ → ℝ := seqK (m ((c : Thread nD τ).loc main_arg1)) b ⟨h * 256 + d, by omega⟩

/-- A sequence's value column, from the argument. -/
abbrev vcol (b : Fin 8) (h : Fin 4) (e : Fin 512) : ℕ → ℝ := seqV (m ((c : Thread nD τ).loc main_arg2)) b ⟨h * 512 + e, by omega⟩

section
variable {m c}
variable (hfk : Finite (m ((c : Thread nD τ).loc main_arg1))) (hfv : Finite (m ((c : Thread nD τ).loc main_arg2)))
include hfk in
/-- A point's keys by time. -/
theorem keys_at (t : Fin cfg0.N) (b : Fin 8) (hb : (b : ℕ) = t.val / 8) (s : Fin 2) (h : Fin 4) (d r : Fin 256) :
    keys (iblk m c 1 t) s h d r = (kcol m c b h d (512 * (t.val % 8) + 256 * s + r) : EReal) := by
  unfold keys
  refine (in_k m c t s ⟨h * 256 + d, by omega⟩ r b ⟨(t.val % 8) * 2 + s, by omega⟩ hb rfl).trans ?_
  exact seqK_coe hfk _ _ _ _ _ (by simp only []; omega)

include hfv in
/-- A point's values by time. -/
theorem vals_at (t : Fin cfg0.N) (b : Fin 8) (hb : (b : ℕ) = t.val / 8) (s : Fin 2) (h : Fin 4) (r : Fin 256) (e : Fin 512) :
    vals (iblk m c 2 t) s h r e = (vcol m c b h e (512 * (t.val % 8) + 256 * s + r) : EReal) := by
  have ht := t.isLt.trans_eq points
  unfold vals
  refine (in_v m c t ⟨s * 256 + r, by omega⟩ ⟨h * 512 + e, by omega⟩ ⟨t.val * 512 + (s * 256 + r), by omega⟩ rfl).trans ?_
  exact seqV_coe hfv _ _ _ _ (by simp only []; omega)

include hfk hfv in
/-- A point's block takes the state after the rows before it to the state after its own. -/
theorem next_at (t : Fin cfg0.N) (b : Fin 8) (hb : (b : ℕ) = t.val / 8) (s : Fin 2) :
    next (iblk m c 1 t) (iblk m c 2 t) (iblk m c 6 t) (iblk m c 8 t) s
        (fun h d e => (st h (kcol m c b h d) (vcol m c b h e) (512 * (t.val % 8) + 256 * s) : EReal))
      = fun h d e => (st h (kcol m c b h d) (vcol m c b h e) (512 * (t.val % 8) + 256 * s + 256) : EReal) :=
  next_st _ _ _ _ s _ (kcol m c b) (vcol m c b) (keys_at hfk t b hb s) (vals_at hfv t b hb s)
    (fun h d r => in_kd m c t h d r) (fun h e => in_sd m c t h e)

include hfk hfv in
/-- A point's two blocks together. -/
theorem next_both (t : Fin cfg0.N) (b : Fin 8) (hb : (b : ℕ) = t.val / 8) :
    next (iblk m c 1 t) (iblk m c 2 t) (iblk m c 6 t) (iblk m c 8 t) 1 (next (iblk m c 1 t) (iblk m c 2 t) (iblk m c 6 t) (iblk m c 8 t) 0
        (fun h d e => (st h (kcol m c b h d) (vcol m c b h e) (512 * (t.val % 8)) : EReal)))
      = fun h d e => (st h (kcol m c b h d) (vcol m c b h e) (512 * (t.val % 8) + 512) : EReal) :=
  (congrArg (next (iblk m c 1 t) (iblk m c 2 t) (iblk m c 6 t) (iblk m c 8 t) 1) (next_at hfk hfv t b hb 0)).trans (next_at hfk hfv t b hb 1)

/-- No rows leave the state zero. -/
theorem zero_state (b : Fin 8) (n : ℕ) (hn : n % 8 = 0) : (fun (h : Fin 4) (d : Fin 256) (e : Fin 512) => (st h (kcol m c b h d) (vcol m c b h e) (512 * (n % 8)) : EReal))
    = fun _ _ _ => Ideal.ofBits .f32 0#32 := by
  funext h d e
  rw [hn, Nat.mul_zero, st_zero, Ideal.ofBits_zero_f32, EReal.coe_zero]

include hfk hfv in
/-- The state every point leaves: that of its sequence after the rows up to its own. -/
theorem state (n : ℕ) : ∀ (hn : n < cfg0.N) (b : Fin 8) (hb : (b : ℕ) = n / 8) (h : Fin 4) (d : Fin 256) (e : Fin 512), (outsAt0 m c n hn).2 (ix3 h d e)
    = (st h (kcol m c b h d) (vcol m c b h e) (512 * (n % 8) + 512) : EReal) := by
  induction n with
  | zero =>
    intro hn b hb h d e
    refine (state_first m c ⟨0, hn⟩ rfl _ _ _ _ rfl rfl rfl rfl h d e).trans ?_
    rw [← zero_state (m := m) (c := c) b 0 rfl]
    exact congrFun (congrFun (congrFun (next_both hfk hfv ⟨0, hn⟩ b hb) h) d) e
  | succ n ih =>
    intro hn b hb h d e
    by_cases h0 : (n + 1) % 8 = 0
    · refine (state_first m c ⟨n + 1, hn⟩ h0 _ _ _ _ rfl rfl rfl rfl h d e).trans ?_
      rw [← zero_state (m := m) (c := c) b (n + 1) h0]
      exact congrFun (congrFun (congrFun (next_both hfk hfv ⟨n + 1, hn⟩ b hb) h) d) e
    · refine (state_later m c ⟨n + 1, hn⟩ h0 _ _ _ _ rfl rfl rfl rfl (outsAt0 m c n (by omega)).2 (fun _ => rfl) h d e).trans ?_
      rw [show (fun h d e => (outsAt0 m c n (by omega)).2 (ix3 h d e)) = fun h d e => (st h (kcol m c b h d) (vcol m c b h e) (512 * ((n + 1) % 8)) : EReal) from
        funext fun h => funext fun d => funext fun e => (ih (by omega) b (by omega) h d e).trans (by rw [show 512 * (n % 8) + 512 = 512 * ((n + 1) % 8) by omega])]
      exact congrFun (congrFun (congrFun (next_both hfk hfv ⟨n + 1, hn⟩ b hb) h) d) e

variable (hfq : Finite (m ((c : Thread nD τ).loc main_arg0)))

include hfq hfk hfv in
/-- A point's gated row, from the state before its block. -/
theorem row_at (t : Fin cfg0.N) (b : Fin 8) (hb : (b : ℕ) = t.val / 8) (s : Fin 2) (r : Fin 256) (h : Fin 4) (e : Fin 512)
    (R : Fin 32768) (T : Fin 4096) (hR : (R : ℕ) = t.val * 512 + (s * 256 + r)) (hT : (T : ℕ) = 512 * (t.val % 8) + 256 * s + r) :
    row (iblk m c 0 t) (iblk m c 1 t) (iblk m c 2 t) (iblk m c 3 t) (iblk m c 5 t) (iblk m c 7 t) (iblk m c 9 t) s
        (fun h d e => (st h (kcol m c b h d) (vcol m c b h e) (512 * (t.val % 8) + 256 * s) : EReal)) r h e
      = gated (fun e => (att (m ((c : Thread nD τ).loc main_arg0)) (m ((c : Thread nD τ).loc main_arg1)) (m ((c : Thread nD τ).loc main_arg2)) b T h e : EReal))
        (fun e => m ((c : Thread nD τ).loc main_arg5) (ix1 ⟨h * 512 + e, by omega⟩))
        (fun e => m ((c : Thread nD τ).loc main_arg3) (ix2 R ⟨h * 512 + e, by omega⟩)) e := by
  refine (row_st _ _ _ s _ (kcol m c b) (vcol m c b) (keys_at hfk t b hb s) (vals_at hfv t b hb s) _ _ _ _ r h e
    (fun d => (m ((c : Thread nD τ).loc main_arg0) (ix2 R ⟨h * 256 + d, by omega⟩)).toReal) (by omega)
    (fun d => (in_q m c t _ _ R hR).trans (hfq _)) (fun d => in_qd m c t h r d) (fun l => in_i m c t h r l)).trans ?_
  rw [show (fun e : Fin 512 => (iblk m c 9 t) (ix2 0 ⟨h * 512 + e, by omega⟩)) = fun e : Fin 512 => m ((c : Thread nD τ).loc main_arg5) (ix1 ⟨h * 512 + e, by omega⟩) from
      funext fun e => in_gn m c t _,
    show vals (iblk m c 3 t) s h r = fun e : Fin 512 => m ((c : Thread nD τ).loc main_arg3) (ix2 R ⟨h * 512 + e, by omega⟩) from
      funext fun e => in_g m c t _ _ R hR]
  unfold att
  rw [← hT, show (⟨b * 4096 + T, by omega⟩ : Fin 32768) = R from Fin.ext (by simp only []; omega)]

include hfq hfk hfv in
/-- A point's gated rows, from the state before the point. -/
theorem rows_at (t : Fin cfg0.N) (b : Fin 8) (hb : (b : ℕ) = t.val / 8) (r : Fin 512) (k : Fin 2048)
    (R : Fin 32768) (hR : (R : ℕ) = t.val * 512 + r) :
    rows (iblk m c 0 t) (iblk m c 1 t) (iblk m c 2 t) (iblk m c 3 t) (iblk m c 5 t) (iblk m c 6 t) (iblk m c 7 t) (iblk m c 8 t) (iblk m c 9 t)
        (fun h d e => (st h (kcol m c b h d) (vcol m c b h e) (512 * (t.val % 8)) : EReal)) r k
      = gated (fun e => (att (m ((c : Thread nD τ).loc main_arg0)) (m ((c : Thread nD τ).loc main_arg1)) (m ((c : Thread nD τ).loc main_arg2))
          ⟨R / 4096, by omega⟩ ⟨R % 4096, by omega⟩ ⟨k / 512, by omega⟩ e : EReal))
        (fun e => m ((c : Thread nD τ).loc main_arg5) (ix1 ⟨k / 512 * 512 + e, by omega⟩))
        (fun e => m ((c : Thread nD τ).loc main_arg3) (ix2 R ⟨k / 512 * 512 + e, by omega⟩)) ⟨k % 512, by omega⟩ := by
  have ht := t.isLt.trans_eq points
  rw [show (⟨R / 4096, by omega⟩ : Fin 8) = b from Fin.ext (by simp only []; omega)]
  by_cases hr : (r : ℕ) < 256
  · rw [rows_fst _ _ _ _ _ _ _ _ _ _ r k ⟨r, hr⟩ ⟨k / 512, by omega⟩ ⟨k % 512, by omega⟩ rfl (by simp only []; omega)]
    exact row_at hfk hfv hfq t _ hb 0 ⟨r, hr⟩ ⟨k / 512, by omega⟩ ⟨k % 512, by omega⟩ R ⟨R % 4096, by omega⟩ (by simp only [Fin.val_zero]; omega) (by simp only [Fin.val_zero]; omega)
  · rw [rows_snd _ _ _ _ _ _ _ _ _ _ r k ⟨r - 256, by omega⟩ ⟨k / 512, by omega⟩ ⟨k % 512, by omega⟩ (by simp only []; omega) (by simp only []; omega)]
    refine (congrArg (fun S => row _ _ _ _ _ _ _ 1 S _ _ _) (next_at hfk hfv t b hb 0)).trans ?_
    exact row_at hfk hfv hfq t _ hb 1 ⟨r - 256, by omega⟩ ⟨k / 512, by omega⟩ ⟨k % 512, by omega⟩ R ⟨R % 4096, by omega⟩ (by simp only [Fin.val_one]; omega) (by simp only [Fin.val_one]; omega)

include hfq hfk hfv in
/-- What a point leaves in its output block: its rows of the retention. -/
theorem point (t : Fin cfg0.N) (r : Fin 512) (j : Fin 1024) (R : Fin 32768) (hR : (R : ℕ) = t.val * 512 + r) :
    (outsAt0 m c t.val t.isLt).1 (ix2 r j) = out (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) R j := by
  have ht := t.isLt.trans_eq points
  by_cases h0 : t.val % 8 = 0
  · refine (out_first m c t h0 _ _ _ _ _ _ _ _ _ _ _ rfl rfl rfl rfl rfl rfl rfl rfl rfl rfl rfl r j).trans ?_
    rw [← zero_state (m := m) (c := c) ⟨t.val / 8, by omega⟩ t.val h0]
    exact congrArg₂ (· + ·) (in_x m c t r j R hR) (Finset.sum_congr rfl fun k _ => congrArg₂ (· * ·) (rows_at hfk hfv hfq t _ rfl r k R hR) (in_w m c t k j))
  · refine (out_later m c t h0 _ _ _ _ _ _ _ _ _ _ _ rfl rfl rfl rfl rfl rfl rfl rfl rfl rfl rfl (outsAt0 m c (t.val - 1) (by omega)).2 (fun _ => rfl) r j).trans ?_
    rw [show (fun h d e => (outsAt0 m c (t.val - 1) (by omega)).2 (ix3 h d e))
        = fun h d e => (st h (kcol m c ⟨t.val / 8, by omega⟩ h d) (vcol m c ⟨t.val / 8, by omega⟩ h e) (512 * (t.val % 8)) : EReal) from
      funext fun h => funext fun d => funext fun e => (state hfk hfv (t.val - 1) (by omega) ⟨t.val / 8, by omega⟩ (by simp only []; omega) h d e).trans
        (by rw [show 512 * ((t.val - 1) % 8) + 512 = 512 * (t.val % 8) by omega])]
    exact congrArg₂ (· + ·) (in_x m c t r j R hR) (Finset.sum_congr rfl fun k _ => congrArg₂ (· * ·) (rows_at hfk hfv hfq t _ rfl r k R hR) (in_w m c t k j))

include hfq hfk hfv in
/-- What the result array holds after the run: the retention of the arguments. -/
theorem final : (dats m 0 c).arrAt 11 cfg0.N = fun i : S32768x1024.Idx =>
    out (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (i 0) (i 1) := by
  refine (dats m 0 c).arrAt_eq_of_covers 11 _ (by decide +kernel) fun t _ y => ?_
  blk_simp
  rw [after0_11]
  have ht := t.isLt.trans_eq points
  have hy0 : (y 0 : ℕ) < 512 := (y 0).isLt
  refine (congrArg (outsAt0 m c t.val t.isLt).1 (eq_ix2 y)).trans ((point hfk hfv hfq t (y 0) (y 1) ⟨t.val * 512 + (y 0 : ℕ), by omega⟩ rfl).trans ?_)
  exact congrArg₂ (out _ _ _ _ _ _ _) (Fin.ext (by blk_simp [idx t])) (Fin.ext (by blk_simp [idx t]))

end

end Cert.KernelIdeal.Ret
-- ==== Proof.RetentionRefEntry.lean ====
module

public import proofs.«01_k».proof.Defs
public import proofs.«01_k».proof.Proof.Gen.ReferenceIdeal.Run
public import proofs.«01_k».proof.Proof.RetentionSpec
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem Idealize.ShloMosaic.StableHlo

namespace Cert.ReferenceIdeal.Ret

open Cert.ReferenceIdeal Cert.ReferenceIdeal.Value
open Cert.Retention (dec dec_eq row_coe dist_coe)

variable (m : (ℓ : Loc nD τ sig) → Buf (Elt Ideal) ℓ) (c : Dev nD)

/-- What the scan's buffers hold before its first trip. -/
abbrev E : Valuation τ sig (Elt Ideal) := entryContents preI m c

/-- Row `t` of chunk `n` of the queries. -/
theorem entry_q (n : Fin 64) (b : Fin 8) (h : Fin 4) (t : Fin 64) (d : Fin 256) :
    (show FVec Ideal S64x8x4x64x256 .f32 from E m c (Proc.devRef .tc main_v57_0)) (ix5 n b h t d)
      = m ((c : Thread nD τ).loc main_arg0) (ix2 ⟨b * 4096 + n * 64 + t, by omega⟩ ⟨h * 256 + d, by omega⟩) := by
  simp only [E, entryContents, afterL_cons, afterL_nil]
  after_reads_simp
  rw [id]
  pointwise

/-- Row `t` of chunk `n` of the keys. -/
theorem entry_k (n : Fin 64) (b : Fin 8) (h : Fin 4) (t : Fin 64) (d : Fin 256) :
    (show FVec Ideal S64x8x4x64x256 .f32 from E m c (Proc.devRef .tc main_v57_1)) (ix5 n b h t d)
      = m ((c : Thread nD τ).loc main_arg1) (ix4 b ⟨n / 4, by omega⟩ ⟨h * 256 + d, by omega⟩ ⟨n % 4 * 64 + t, by omega⟩) := by
  simp only [E, entryContents, afterL_cons, afterL_nil]
  after_reads_simp
  rw [id]
  pointwise

/-- Row `t` of chunk `n` of the values. -/
theorem entry_v (n : Fin 64) (b : Fin 8) (h : Fin 4) (t : Fin 64) (e : Fin 512) :
    (show FVec Ideal S64x8x4x64x512 .f32 from E m c (Proc.devRef .tc main_v57_2)) (ix5 n b h t e)
      = m ((c : Thread nD τ).loc main_arg2) (ix2 ⟨b * 4096 + n * 64 + t, by omega⟩ ⟨h * 512 + e, by omega⟩) := by
  simp only [E, entryContents, afterL_cons, afterL_nil]
  after_reads_simp
  rw [id]
  pointwise

/-- The weights within a chunk. -/
theorem entry_i (h : Fin 4) (t s : Fin 64) :
    (show FVec Ideal S4x64x64 .f32 from E m c (Proc.devRef .tc main_v57_3)) (ix3 h t s) = (dec h |((t : ℕ) : ℝ) - ((s : ℕ) : ℝ)| : EReal) := by
  simp only [E, entryContents, afterL_cons, afterL_nil]
  after_reads_simp
  rw [id]
  pointwise
  exact dec_eq h _ _ (dist_coe t s (by omega) (by omega))

/-- The query decays. -/
theorem entry_qd (h : Fin 4) (t : Fin 64) :
    (show FVec Ideal S4x64x1 .f32 from E m c (Proc.devRef .tc main_v57_4)) (ix3 h t 0) = (dec h (((t : ℕ) : ℝ) + 1) : EReal) := by
  simp only [E, entryContents, afterL_cons, afterL_nil]
  after_reads_simp
  rw [id]
  pointwise
  exact dec_eq h _ _ (by rw [row_coe _ (by omega), ← EReal.coe_one, ← EReal.coe_add])

/-- The state decay of a chunk. -/
theorem entry_sd (h : Fin 4) :
    (show FVec Ideal S4x1x1 .f32 from E m c (Proc.devRef .tc main_v57_5)) (ix3 h 0 0) = (dec h ((64 : ℕ) : ℝ) : EReal) := by
  simp only [E, entryContents, afterL_cons, afterL_nil]
  after_reads_simp
  rw [id]
  pointwise
  exact dec_eq h _ _ (by
    rw [show Ideal.ofBits .f32 1115684864#32 = ((64 : ℝ) : EReal) by simp [Ideal.ofBits, Ideal.ieee, -EReal.coe_mul]; norm_num]
    norm_num)

/-- The key decays. -/
theorem entry_kd (h : Fin 4) (t : Fin 64) :
    (show FVec Ideal S4x64x1 .f32 from E m c (Proc.devRef .tc main_v57_6)) (ix3 h t 0) = (dec h (((64 : ℕ) : ℝ) - 1 - ((t : ℕ) : ℝ)) : EReal) := by
  simp only [E, entryContents, afterL_cons, afterL_nil]
  after_reads_simp
  rw [id]
  pointwise
  exact dec_eq h _ _ (by
    rw [row_coe _ (by omega), show Ideal.ofBits .f32 1115422720#32 = ((63 : ℝ) : EReal) by simp [Ideal.ofBits, Ideal.ieee, -EReal.coe_mul]; norm_num,
      ← EReal.coe_sub]
    norm_num)

/-- The state starts at zero. -/
theorem entry_s (b : Fin 8) (h : Fin 4) (d : Fin 256) (e : Fin 512) :
    (show FVec Ideal S8x4x256x512 .f32 from E m c (Proc.devRef .tc main_v57_8)) (ix4 b h d e) = 0 := by
  simp only [E, entryContents, afterL_cons, afterL_nil]
  after_reads_simp
  rw [id]
  pointwise

end Cert.ReferenceIdeal.Ret
-- ==== Proof.RetentionRefStep.lean ====
module

public import proofs.«01_k».proof.Defs
public import proofs.«01_k».proof.Proof.Gen.ReferenceIdeal.Run
public import proofs.«01_k».proof.Proof.RetentionSpec
public import Idealize.ShloMosaic.Lib.Pointwise
public import Idealize.ShloMosaic.Lib.DynamicIndex
public import Idealize.ShloMosaic.Lib.WordCmp

@[expose] public section

set_option maxRecDepth 16384

noncomputable section

open Idealize.ShloMosaic Idealize.ShloMosaic.TcCoe Idealize.SL.Sem Idealize.ShloMosaic.StableHlo

namespace Cert.ReferenceIdeal.Ret

open Cert.ReferenceIdeal Cert.ReferenceIdeal.Value Cert.ReferenceIdeal.Gen

variable (X : Valuation τ sig (Elt Ideal)) (n : Fin 64) (hX : X (Proc.devRef .tc main_v57_7) = fun _ => BitVec.ofNat 32 n)

include hX in
/-- The scan's starts: the trip along the chunks, zero along the rest. -/
theorem starts (a : Fin 5) : (((![X (Proc.devRef .tc main_v57_7), constantI S_ 32 0#32, constantI S_ 32 0#32, constantI S_ 32 0#32, constantI S_ 32 0#32] : Fin 5 → (⟨S_, .i32⟩ : BufTy).Contents (Elt Ideal))) a (Shape.Idx.first h_S_)).toInt
    = ((![(n : ℕ), 0, 0, 0, 0] : Fin 5 → ℕ) a : ℤ) := by
  rw [hX]
  revert n
  revert a
  intro a n _
  have hn : (BitVec.ofNat 32 (n : ℕ)).toInt = ((n : ℕ) : ℤ) := by
    rw [BitVec.toInt_eq_toNat_of_lt (by rw [BitVec.toNat_ofNat]; omega), BitVec.toNat_ofNat]; omega
  fin_cases a
  · exact hn
  · rfl
  · rfl
  · rfl
  · rfl

/-- One chunk of an array of 64 chunks of rows of 256 lies inside it. -/
theorem fits256 : S64x8x4x64x256.Slices (![(n : ℕ), 0, 0, 0, 0] : Fin 5 → ℕ) S1x8x4x64x256 :=
  ⟨rfl, fun a => by fin_cases a <;> simp <;> omega⟩

/-- One chunk of an array of 64 chunks of rows of 512 lies inside it. -/
theorem fits512 : S64x8x4x64x512.Slices (![(n : ℕ), 0, 0, 0, 0] : Fin 5 → ℕ) S1x8x4x64x512 :=
  ⟨rfl, fun a => by fin_cases a <;> simp <;> omega⟩

include hX in
/-- A trip's queries. -/
theorem chunk_q (b : Fin 8) (h : Fin 4) (t : Fin 64) (d : Fin 256) : (show FVec Ideal S8x4x64x256 .f32 from res_main_while0b_v79 X) (ix4 b h t d)
    = (show FVec Ideal S64x8x4x64x256 .f32 from X (Proc.devRef .tc main_v57_0)) (ix5 n b h t d) := by
  unfold res_main_while0b_v79
  rw [Host.dynamicSlice_eq_extractStridedSlice _ _ _ (![(n : ℕ), 0, 0, 0, 0] : Fin 5 → ℕ) _ (fits256 n) (starts X n hX)]
  pointwise

include hX in
/-- A trip's keys. -/
theorem chunk_k (b : Fin 8) (h : Fin 4) (t : Fin 64) (d : Fin 256) : (show FVec Ideal S8x4x64x256 .f32 from res_main_while0b_v80 X) (ix4 b h t d)
    = (show FVec Ideal S64x8x4x64x256 .f32 from X (Proc.devRef .tc main_v57_1)) (ix5 n b h t d) := by
  unfold res_main_while0b_v80
  rw [Host.dynamicSlice_eq_extractStridedSlice _ _ _ (![(n : ℕ), 0, 0, 0, 0] : Fin 5 → ℕ) _ (fits256 n) (starts X n hX)]
  pointwise

include hX in
/-- A trip's values. -/
theorem chunk_v (b : Fin 8) (h : Fin 4) (t : Fin 64) (e : Fin 512) : (show FVec Ideal S8x4x64x512 .f32 from res_main_while0b_v81 X) (ix4 b h t e)
    = (show FVec Ideal S64x8x4x64x512 .f32 from X (Proc.devRef .tc main_v57_2)) (ix5 n b h t e) := by
  unfold res_main_while0b_v81
  rw [Host.dynamicSlice_eq_extractStridedSlice _ _ _ (![(n : ℕ), 0, 0, 0, 0] : Fin 5 → ℕ) _ (fits512 n) (starts X n hX)]
  pointwise

include hX in
/-- The state after a trip: the state before it decayed, plus the chunk's decayed keys times values. -/
theorem step_state (b : Fin 8) (h : Fin 4) (d : Fin 256) (e : Fin 512) : (show FVec Ideal S8x4x256x512 .f32 from step_main_v57_8 X) (ix4 b h d e)
    = (show FVec Ideal S8x4x256x512 .f32 from X (Proc.devRef .tc main_v57_8)) (ix4 b h d e) * (show FVec Ideal S4x1x1 .f32 from X (Proc.devRef .tc main_v57_5)) (ix3 h 0 0)
      + ∑ s : Fin 64, (show FVec Ideal S64x8x4x64x256 .f32 from X (Proc.devRef .tc main_v57_1)) (ix5 n b h s d)
          * (show FVec Ideal S4x64x1 .f32 from X (Proc.devRef .tc main_v57_6)) (ix3 h s 0)
          * (show FVec Ideal S64x8x4x64x512 .f32 from X (Proc.devRef .tc main_v57_2)) (ix5 n b h s e) := by
  unfold step_main_v57_8
  rw [id]
  pointwise
  exact congrArg₂ (· + ·) rfl (Finset.sum_congr rfl fun s _ => congrArg₂ (· * ·) (congrArg (· * _) (chunk_k X n hX b h s d)) (chunk_v X n hX b h s e))

include hX in
/-- The stacked results after a trip: the trip's chunk holds its rows' attention over the chunk and what the state carries; the others are as they were. -/
theorem step_out (p : Fin 64) (b : Fin 8) (h : Fin 4) (t : Fin 64) (e : Fin 512) : (show FVec Ideal S64x8x4x64x512 .f32 from step_main_v57_9 X) (ix5 p b h t e)
    = if p = n then (∑ s : Fin 64, (∑ d : Fin 256, (show FVec Ideal S64x8x4x64x256 .f32 from X (Proc.devRef .tc main_v57_0)) (ix5 n b h t d)
            * (show FVec Ideal S64x8x4x64x256 .f32 from X (Proc.devRef .tc main_v57_1)) (ix5 n b h s d))
          * (show FVec Ideal S4x64x64 .f32 from X (Proc.devRef .tc main_v57_3)) (ix3 h t s)
          * (show FVec Ideal S64x8x4x64x512 .f32 from X (Proc.devRef .tc main_v57_2)) (ix5 n b h s e))
        + ∑ d : Fin 256, (show FVec Ideal S64x8x4x64x256 .f32 from X (Proc.devRef .tc main_v57_0)) (ix5 n b h t d)
          * (show FVec Ideal S4x64x1 .f32 from X (Proc.devRef .tc main_v57_4)) (ix3 h t 0)
          * (show FVec Ideal S8x4x256x512 .f32 from X (Proc.devRef .tc main_v57_8)) (ix4 b h d e)
      else (show FVec Ideal S64x8x4x64x512 .f32 from X (Proc.devRef .tc main_v57_9)) (ix5 p b h t e) := by
  unfold step_main_v57_9
  rw [id]
  rw [WordCmp.dynamicUpdateSlice_eq_update _ _ _ _ (![(n : ℕ), 0, 0, 0, 0] : Fin 5 → ℕ) (fits512 n) (starts X n hX)]
  have hp1 := p.isLt
  by_cases hp : p = n
  · subst hp
    rw [if_pos rfl]
    pointwise
    refine (dif_pos (show ∀ a : Fin 5, (![(p : ℕ), 0, 0, 0, 0] : Fin 5 → ℕ) a ≤ ((show S64x8x4x64x512.Idx from ix5 p b h t e) a : ℕ)
      ∧ ((show S64x8x4x64x512.Idx from ix5 p b h t e) a : ℕ) < (![(p : ℕ), 0, 0, 0, 0] : Fin 5 → ℕ) a + (![1, 8, 4, 64, 512] : Fin 5 → ℕ) a from
        fun a => by fin_cases a <;> simp)).trans ?_
    refine congrArg₂ (· + ·) (Finset.sum_congr rfl fun s _ => congrArg₂ (· * ·) (congrArg (· * _) (Finset.sum_congr rfl fun d _ =>
      congrArg₂ (· * ·) (chunk_q X p hX b h t d) (chunk_k X p hX b h s d))) (chunk_v X p hX b h s e))
      (Finset.sum_congr rfl fun d _ => congrArg (· * _) (congrArg (· * _) (chunk_q X p hX b h t d)))
  · rw [if_neg hp]
    pointwise
    rw [dif_neg (fun H => hp (Fin.ext (by
      have h0 : (n : ℕ) ≤ p ∧ (p : ℕ) < n + 1 := H (0 : Fin 5)
      omega)))]

end Cert.ReferenceIdeal.Ret
-- ==== Proof.RetentionRefLoop.lean ====
module

public import proofs.«01_k».proof.Defs
public import proofs.«01_k».proof.Proof.RetentionRefEntry
public import proofs.«01_k».proof.Proof.RetentionRefStep
public import Idealize.ShloMosaic.Lib.Pointwise

@[expose] public section

set_option maxRecDepth 16384

noncomputable section

open Idealize.ShloMosaic Idealize.ShloMosaic.TcCoe Idealize.SL.Sem Idealize.ShloMosaic.StableHlo

namespace Cert.ReferenceIdeal.Ret

open Cert.ReferenceIdeal Cert.ReferenceIdeal.Value
open Cert.Retention (dec st st_zero st_add_coe mix_block_coe seqK seqV seqK_coe seqV_coe Finite att)

variable (m : (ℓ : Loc nD τ sig) → Buf (Elt Ideal) ℓ) (c : Dev nD)

/-- What the scan's buffers hold after `j` trips. -/
abbrev L (j : ℕ) : Valuation τ sig (Elt Ideal) := STEP^[j] (E m c)

/-- One trip more is one step more. -/
theorem loop_succ (j : ℕ) : L m c (j + 1) = STEP (L m c j) := Function.iterate_succ_apply' STEP j (E m c)

/-- The queries stay as they entered. -/
theorem loop_q (j : ℕ) : L m c j (Proc.devRef .tc main_v57_0) = E m c (Proc.devRef .tc main_v57_0) := by
  induction j with
  | zero => rfl
  | succ j ih => rw [loop_succ, STEP_main_v57_0, ih]

/-- The keys stay as they entered. -/
theorem loop_k (j : ℕ) : L m c j (Proc.devRef .tc main_v57_1) = E m c (Proc.devRef .tc main_v57_1) := by
  induction j with
  | zero => rfl
  | succ j ih => rw [loop_succ, STEP_main_v57_1, ih]

/-- The values stay as they entered. -/
theorem loop_v (j : ℕ) : L m c j (Proc.devRef .tc main_v57_2) = E m c (Proc.devRef .tc main_v57_2) := by
  induction j with
  | zero => rfl
  | succ j ih => rw [loop_succ, STEP_main_v57_2, ih]

/-- The weights stay as they entered. -/
theorem loop_i (j : ℕ) : L m c j (Proc.devRef .tc main_v57_3) = E m c (Proc.devRef .tc main_v57_3) := by
  induction j with
  | zero => rfl
  | succ j ih => rw [loop_succ, STEP_main_v57_3, ih]

/-- The query decays stay as they entered. -/
theorem loop_qd (j : ℕ) : L m c j (Proc.devRef .tc main_v57_4) = E m c (Proc.devRef .tc main_v57_4) := by
  induction j with
  | zero => rfl
  | succ j ih => rw [loop_succ, STEP_main_v57_4, ih]

/-- The state decay stays as it entered. -/
theorem loop_sd (j : ℕ) : L m c j (Proc.devRef .tc main_v57_5) = E m c (Proc.devRef .tc main_v57_5) := by
  induction j with
  | zero => rfl
  | succ j ih => rw [loop_succ, STEP_main_v57_5, ih]

/-- The key decays stay as they entered. -/
theorem loop_kd (j : ℕ) : L m c j (Proc.devRef .tc main_v57_6) = E m c (Proc.devRef .tc main_v57_6) := by
  induction j with
  | zero => rfl
  | succ j ih => rw [loop_succ, STEP_main_v57_6, ih]

/-- The counter counts the trips. -/
theorem loop_ctr (j : ℕ) : L m c j (Proc.devRef .tc main_v57_7) = fun _ => BitVec.ofNat 32 j := by
  induction j with
  | zero => exact ctr_entry m c
  | succ j ih =>
    rw [loop_succ, STEP_main_v57_7]
    unfold step_main_v57_7
    rw [ih]
    funext i
    exact (BitVec.ofNat_add (n := 32) j 1).symm

/-- A sequence's key column, from the argument. -/
abbrev kcol (b : Fin 8) (h : Fin 4) (d : Fin 256) : ℕ → ℝ := seqK (m ((c : Thread nD τ).loc main_arg1)) b ⟨h * 256 + d, by omega⟩

/-- A sequence's value column, from the argument. -/
abbrev vcol (b : Fin 8) (h : Fin 4) (e : Fin 512) : ℕ → ℝ := seqV (m ((c : Thread nD τ).loc main_arg2)) b ⟨h * 512 + e, by omega⟩

section
variable {m c}
variable (hfq : Finite (m ((c : Thread nD τ).loc main_arg0))) (hfk : Finite (m ((c : Thread nD τ).loc main_arg1)))
  (hfv : Finite (m ((c : Thread nD τ).loc main_arg2)))

include hfk in
/-- A chunk's keys by time. -/
theorem entry_k_at (n : Fin 64) (b : Fin 8) (h : Fin 4) (t : Fin 64) (d : Fin 256) :
    (show FVec Ideal S64x8x4x64x256 .f32 from E m c (Proc.devRef .tc main_v57_1)) (ix5 n b h t d) = (kcol m c b h d (64 * n + t) : EReal) :=
  (entry_k m c n b h t d).trans (seqK_coe hfk _ _ _ _ _ (by simp only []; omega))

include hfv in
/-- A chunk's values by time. -/
theorem entry_v_at (n : Fin 64) (b : Fin 8) (h : Fin 4) (t : Fin 64) (e : Fin 512) :
    (show FVec Ideal S64x8x4x64x512 .f32 from E m c (Proc.devRef .tc main_v57_2)) (ix5 n b h t e) = (vcol m c b h e (64 * n + t) : EReal) :=
  (entry_v m c n b h t e).trans (seqV_coe hfv _ _ _ _ (by simp only []; omega))

include hfk hfv in
/-- The state after `j` trips is that after `64 j` rows. -/
theorem loop_state (j : ℕ) (hj : j ≤ 64) : ∀ (b : Fin 8) (h : Fin 4) (d : Fin 256) (e : Fin 512),
    (show FVec Ideal S8x4x256x512 .f32 from L m c j (Proc.devRef .tc main_v57_8)) (ix4 b h d e) = (st h (kcol m c b h d) (vcol m c b h e) (64 * j) : EReal) := by
  induction j with
  | zero =>
    intro b h d e
    rw [Nat.mul_zero, st_zero, EReal.coe_zero]
    exact entry_s m c b h d e
  | succ j ih =>
    intro b h d e
    rw [loop_succ, STEP_main_v57_8]
    refine (step_state (L m c j) ⟨j, by omega⟩ (loop_ctr m c j) b h d e).trans ?_
    rw [loop_k, loop_v, loop_sd, loop_kd, show 64 * (j + 1) = 64 * j + 64 by ring, st_add_coe]
    exact congrArg₂ (· + ·) (congrArg₂ (· * ·) (ih (by omega) b h d e) (entry_sd m c h)) (Finset.sum_congr rfl fun s _ => congrArg₂ (· * ·)
      (congrArg₂ (· * ·) (entry_k_at hfk ⟨j, by omega⟩ b h s d) (entry_kd m c h s)) (entry_v_at hfv ⟨j, by omega⟩ b h s e))

include hfq hfk hfv in
/-- The results stacked by `j` trips are the retention's rows. -/
theorem loop_out (j : ℕ) (hj : j ≤ 64) : ∀ (p : Fin 64) (hp : (p : ℕ) < j) (b : Fin 8) (h : Fin 4) (t : Fin 64) (e : Fin 512),
    (show FVec Ideal S64x8x4x64x512 .f32 from L m c j (Proc.devRef .tc main_v57_9)) (ix5 p b h t e)
      = (att (m ((c : Thread nD τ).loc main_arg0)) (m ((c : Thread nD τ).loc main_arg1)) (m ((c : Thread nD τ).loc main_arg2)) b ⟨64 * p + t, by omega⟩ h e : EReal) := by
  induction j with
  | zero => intro p hp; omega
  | succ j ih =>
    intro p hp b h t e
    rw [loop_succ, STEP_main_v57_9]
    refine (step_out (L m c j) ⟨j, by omega⟩ (loop_ctr m c j) p b h t e).trans ?_
    by_cases hpj : p = ⟨j, by omega⟩
    · have hpv : (p : ℕ) = j := congrArg Fin.val hpj
      rw [if_pos hpj, loop_q, loop_k, loop_v, loop_i, loop_qd, ← hpj]
      unfold att
      rw [mix_block_coe h _ _ _ (64 * p) 64 (by omega) (by omega) t]
      refine congrArg₂ (· + ·) (Finset.sum_congr rfl fun s _ => congrArg₂ (· * ·) (congrArg₂ (· * ·) (Finset.sum_congr rfl fun d _ =>
        congrArg₂ (· * ·) ?_ (entry_k_at hfk p b h s d)) ?_) (entry_v_at hfv p b h s e))
        (Finset.sum_congr rfl fun d _ => congrArg₂ (· * ·) (congrArg₂ (· * ·) ?_ (entry_qd m c h t)) ?_)
      · refine (entry_q m c p b h t d).trans ?_
        rw [show (⟨b * 4096 + p * 64 + t, by omega⟩ : Fin 32768) = ⟨b * 4096 + (64 * p + t), by omega⟩ from Fin.ext (by simp only []; omega)]
        exact hfq _
      · rw [if_pos (by omega)]
        exact entry_i m c h t s
      · refine (entry_q m c p b h t d).trans ?_
        rw [show (⟨b * 4096 + p * 64 + t, by omega⟩ : Fin 32768) = ⟨b * 4096 + (64 * p + t), by omega⟩ from Fin.ext (by simp only []; omega)]
        exact hfq _
      · rw [hpv]
        exact loop_state hfk hfv j (by omega) b h d e
    · rw [if_neg hpj]
      exact ih (by omega) p (by have : (p : ℕ) ≠ j := fun H => hpj (Fin.ext H); omega) b h t e

end

end Cert.ReferenceIdeal.Ret
-- ==== Proof.RetentionRefOut.lean ====
module

public import proofs.«01_k».proof.Defs
public import proofs.«01_k».proof.Proof.RetentionRefLoop
public import Idealize.ShloMosaic.Lib.Pointwise

@[expose] public section

set_option maxRecDepth 16384

noncomputable section

open Idealize.ShloMosaic Idealize.ShloMosaic.TcCoe Idealize.SL.Sem Idealize.ShloMosaic.StableHlo

namespace Cert.ReferenceIdeal.Ret

open Cert.ReferenceIdeal Cert.ReferenceIdeal.Value
open Cert.Retention (gated Finite att out)

/-- The end of the reference: its stacked rows normed, gated, and through the output matrix. -/
theorem out_at (X : Valuation τ sig (Elt Ideal)) (O : FVec Ideal S64x8x4x64x512 .f32) (G : FVec Ideal S32768x2048 .bf16) (A : FVec Ideal S32768x1024 .f32)
    (gn : FVec Ideal S2048 .f32) (W : FVec Ideal S2048x1024 .f32) (hO : X (Proc.devRef .tc main_v57_9) = O) (hG : X (Proc.devRef .tc main_arg3) = G)
    (hA : X (Proc.devRef .tc main_arg4) = A) (hgn : X (Proc.devRef .tc main_arg5) = gn) (hW : X (Proc.devRef .tc main_arg6) = W)
    (R : Fin 32768) (j : Fin 1024) : (show FVec Ideal S32768x1024 .f32 from out_main_v78 X) (ix2 R j) = A (ix2 R j) + ∑ k : Fin 2048,
      gated (fun e => O (ix5 ⟨R % 4096 / 64, by omega⟩ ⟨R / 4096, by omega⟩ ⟨k / 512, by omega⟩ ⟨R % 4096 % 64, by omega⟩ e))
        (fun e => gn (ix1 ⟨(k / 512) * 512 + e, by omega⟩))
        (fun e => G (ix2 R ⟨(k / 512) * 512 + e, by omega⟩)) ⟨k % 512, by omega⟩ * W (ix2 k j) := by
  unfold out_main_v78
  rw [hO, hG, hA, hgn, hW]
  unfold gated
  pointwise
  refine congrArg₂ (· + ·) rfl (Finset.sum_congr rfl fun k _ => ?_)
  have e : (⟨k / 512 * 512 + k % 512, by omega⟩ : Fin 2048) = k := Fin.ext (by simp only []; omega)
  simp only [e]

variable {m : (ℓ : Loc nD τ sig) → Buf (Elt Ideal) ℓ} {c : Dev nD}
variable (hfq : Finite (m ((c : Thread nD τ).loc main_arg0))) (hfk : Finite (m ((c : Thread nD τ).loc main_arg1)))
  (hfv : Finite (m ((c : Thread nD τ).loc main_arg2)))

include hfq hfk hfv in
/-- What the reference computes: the retention of the arguments. -/
theorem final (R : Fin 32768) (j : Fin 1024) : (show FVec Ideal S32768x1024 .f32 from out_main_v78 (L m c 64)) (ix2 R j)
    = out (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) R j := by
  refine (out_at (L m c 64) _ _ _ _ _ rfl rfl rfl rfl rfl R j).trans ?_
  unfold out
  refine congrArg₂ (· + ·) (congrFun (iter_main_arg4 m c 64) _) (Finset.sum_congr rfl fun k _ => congrArg₂ (· * ·) ?_ (congrFun (iter_main_arg6 m c 64) _))
  refine congrFun (congr (congr (congrArg gated (funext fun e => ?_)) (funext fun e => congrFun (iter_main_arg5 m c 64) _)) (funext fun e => congrFun (iter_main_arg3 m c 64) _)) _
  refine (loop_out hfq hfk hfv 64 (by omega) ⟨R % 4096 / 64, by omega⟩ (by simp only []; omega) _ _ _ e).trans ?_
  rw [show (⟨64 * (R % 4096 / 64) + R % 4096 % 64, by omega⟩ : Fin 4096) = ⟨R % 4096, by omega⟩ from Fin.ext (by simp only []; omega)]

end Cert.ReferenceIdeal.Ret
-- ==== Proof.RetentionClaim.lean ====
module

public import proofs.«01_k».proof.Defs
public import proofs.«01_k».proof.Proof.RetentionArray
public import proofs.«01_k».proof.Proof.RetentionRefOut
public import proofs.«01_k».proof.Proof.RetentionFinite
public import Idealize.ShloMosaic.Lib.Claim

@[expose] public section

set_option maxRecDepth 16384

noncomputable section

open Idealize.ShloMosaic Idealize.ShloMosaic.TcCoe Idealize.SL.Sem

namespace Cert.Retention

/-- From finite queries, keys and values the retention kernel and its reference end with the same array. -/
theorem algebraic [hpre : Cert.Pre_finite_qkv.Facts] : Cert.algebraic_KernelIdeal_ReferenceIdeal_pre_finite_qkv := by
  pair_intro
  · run_from Cert.KernelIdeal.Value.run_blocks m g
  · run_from Cert.ReferenceIdeal.Value.run m' g'
    obtain ⟨hq, hk, hv⟩ := finite_of_pre _ _ _ _ _ _ _ (hpre c)
    obtain ⟨e0, e1, e2, e3, e4, e5, e6⟩ := hagree c
    rw [Cert.KernelIdeal.Ret.final hk hv hq, ← e0, ← e1, ← e2, ← e3, ← e4, ← e5, ← e6]
    rw [← e0] at hq
    rw [← e1] at hk
    rw [← e2] at hv
    funext i
    exact (congrArg _ (eq_ix2 i)).trans (Cert.ReferenceIdeal.Ret.final hq hk hv (i 0) (i 1))

end Cert.Retention
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Reference5Ideal.Read
public import proofs.«01_k».proof.Proof.BiasClaim
public import proofs.«01_k».proof.Proof.FfnClaim
public import proofs.«01_k».proof.Proof.InprojClaim
public import proofs.«01_k».proof.Proof.KvqClaim
public import proofs.«01_k».proof.Proof.RetentionRefFrame
public import proofs.«01_k».proof.Proof.RetentionClaim
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Retention.pre_facts, Cert.Bias.pre_facts,
  fun m g _ => Cert.Kernel.Gen.frame m g,
  fun m g _ => Cert.KernelIdeal.Gen.frame m g,
  fun m g _ => Cert.KernelIdeal.Gen.frame m g,
  Cert.Retention.reference_frame,
  Cert.Retention.reference_frame_pre (hPre_finite_qkv := Cert.Retention.pre_facts),
  fun m g _ => Cert.Kernel2.Gen.frame m g,
  fun m g _ => Cert.Kernel2Ideal.Gen.frame m g,
  Cert.Ffn.reference_frame,
  fun m g _ => Cert.Kernel3.Gen.frame m g,
  fun m g _ => Cert.Kernel3Ideal.Gen.frame m g,
  Cert.Inproj.reference_frame,
  fun m g _ => Cert.Kernel4.Gen.frame m g,
  fun m g _ => Cert.Kernel4Ideal.Gen.frame m g,
  Cert.Kvq.reference_frame,
  fun m g _ => Cert.Kernel5.Gen.frame m g,
  fun m g _ => Cert.Kernel5Ideal.Gen.frame m g,
  fun m g _ => Cert.Kernel5Ideal.Gen.frame m g,
  Cert.Bias.reference_frame,
  Cert.Bias.reference_frame_pre (hPre_finite_bias := Cert.Bias.pre_facts),
  trivial,
  Cert.Retention.algebraic (hpre := Cert.Retention.pre_facts),
  trivial,
  Cert.Ffn.algebraic,
  trivial,
  Cert.Inproj.algebraic,
  trivial,
  Cert.Kvq.algebraic,
  trivial,
  Cert.Bias.algebraic (hpre := Cert.Bias.pre_facts)⟩

end Cert.Proof

end
